-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near_threshold [hPre_few_near_threshold : Cert.Pre_few_near_threshold.Facts] (m : (ℓ : Loc Cert.KernelIdeal.nD Cert.KernelIdeal.τ Cert.KernelIdeal.sig) → Buf (Elt Ideal) ℓ) : Prop :=
  ∀ c : Dev Cert.KernelIdeal.nD,
    (Cert.Pre_few_near_threshold.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near_threshold [hPre_few_near_threshold : Cert.Pre_few_near_threshold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near_threshold.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_few_near_threshold [hKernelIdeal : Cert.KernelIdeal.Facts] [hPre_few_near_threshold : Cert.Pre_few_near_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near_threshold m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_few_near_threshold [hReferenceIdeal : Cert.ReferenceIdeal.Facts] [hPre_few_near_threshold : Cert.Pre_few_near_threshold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near_threshold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "root_eps" .f32 0x3DCCCCCD#32 ((Real.sqrt (5368709 / 536870912) : ℝ) : EReal)
  ∧ IdealRules.named_const.Statement Cert.KernelIdeal.κ "eps" .bf16 0x3C24#16 ((5368709 / 536870912 : ℝ) : EReal)

def algebraic_KernelIdeal_ReferenceIdeal_pre_few_near_threshold [hKernelIdeal : Cert.KernelIdeal.Facts] [hReferenceIdeal : Cert.ReferenceIdeal.Facts] [hPre_few_near_threshold : Cert.Pre_few_near_threshold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near_threshold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_few_near_threshold : Cert.Pre_few_near_threshold.Facts),
    quiescent_Kernel (hKernel := hKernel)
    ∧ quiescent_KernelIdeal (hKernelIdeal := hKernelIdeal)
    ∧ quiescent_KernelIdeal_pre_few_near_threshold (hKernelIdeal := hKernelIdeal) (hPre_few_near_threshold := hPre_few_near_threshold)
    ∧ quiescent_ReferenceIdeal (hReferenceIdeal := hReferenceIdeal)
    ∧ quiescent_ReferenceIdeal_pre_few_near_threshold (hReferenceIdeal := hReferenceIdeal) (hPre_few_near_threshold := hPre_few_near_threshold)
    ∧ preserves_Kernel_KernelIdeal
    ∧ algebraic_KernelIdeal_ReferenceIdeal_pre_few_near_threshold (hKernelIdeal := hKernelIdeal) (hReferenceIdeal := hReferenceIdeal) (hPre_few_near_threshold := hPre_few_near_threshold)
-- ==== Pre_few_near_threshold.lean ====
abbrev S8x2048 : Shape := ⟨2, ![8, 2048]⟩
abbrev S8x2048x2048 : Shape := ⟨3, ![8, 2048, 2048]⟩
abbrev S_ : Shape := ⟨0, ![]⟩
abbrev S8 : Shape := ⟨1, ![8]⟩

class Facts : Prop where
  transposes_S8x2048x2048_S8x2048x2048_0_2_1 : S8x2048x2048.Transposes [0, 2, 1] S8x2048x2048
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x2048_0_1 : S8x2048.BroadcastsInDim S8x2048x2048 (![0, 1] : Fin 2 → Fin S8x2048x2048.rank)
  bcast_S8x2048_S8x2048x2048_0_2 : S8x2048.BroadcastsInDim S8x2048x2048 (![0, 2] : Fin 2 → Fin S8x2048x2048.rank)
  bcast_S_S8x2048x2048 : S_.BroadcastsInDim S8x2048x2048 (![] : Fin 0 → Fin S8x2048x2048.rank)
  reducesTo_S8x2048_S8_d1 : S8x2048.ReducesTo [1] S8
  bcast_S_S8 : S_.BroadcastsInDim S8 (![] : Fin 0 → Fin S8.rank)

variable [Facts]

def fn_part8 {F : FTy → Type} [FloatOps F] (main_v156 : FVec F S8x2048 .f32) (main_v161 : FVec F S8x2048 .f32) (main_cst_28 : FVec F S_ .f32) : IVec S8 1 :=
  let main_v162 : FVec F S8x2048 .f32 := broadcastInDim S8x2048 ![] bcast_S_S8x2048 main_cst_28
  let main_v163 : IVec S8x2048 1 := cmpf .ogt main_v156 main_v162
  let main_cst_29 : FVec F S_ .f32 := constant S_ .f32 0x3F800000#32
  let main_v164 : FVec F S8x2048 .f32 := broadcastInDim S8x2048 ![] bcast_S_S8x2048 main_cst_29
  let main_v165 : IVec S8x2048 1 := cmpf .olt main_v161 main_v164
  let main_v166 : IVec S8x2048 1 := andi main_v163 main_v165
  let main_v167 : FVec F S8x2048 .f32 := uitofp .f32 main_v166
  let main_cst_30 : FVec F S_ .f32 := constant S_ .f32 0x00000000#32
  let main_v168 : FVec F S8 .f32 := (fun x v => Host.reduceAdd x v reducesTo_S8x2048_S8_d1 h_S_) main_v167 main_cst_30
  let main_cst_31 : FVec F S_ .f32 := constant S_ .f32 0x40000000#32
  let main_v169 : FVec F S8 .f32 := broadcastInDim S8 ![] bcast_S_S8 main_cst_31
  let main_v170 : IVec S8 1 := cmpf .ole main_v168 main_v169
  main_v170

def fn_part7 {F : FTy → Type} [FloatOps F] (main_arg0 : FVec F S8x2048 .f32) (main_v1 : FVec F S8x2048x2048 .f32) (main_v10 : FVec F S8x2048 .f32) (main_v136 : FVec F S8x2048 .f32) (main_v144 : FVec F S8x2048x2048 .f32) : IVec S8 1 :=
  let main_v145 : FVec F S8x2048x2048 .f32 := mulf main_v1 main_v144
  let main_cst_22 : FVec F S_ .f32 := constant S_ .f32 0x00000000#32
  let main_v146 : FVec F S8x2048 .f32 := (fun x v => Host.reduceAdd x v reducesTo_S8x2048x2048_S8x2048_d2 h_S_) main_v145 main_cst_22
  let main_v147 : FVec F S8x2048 .f32 := subf main_v136 main_arg0
  let main_v148 : FVec F S8x2048 .f32 := addf main_v147 main_v146
  let main_v149 : FVec F S8x2048 .f32 := mulf main_v10 main_v148
  let main_v150 : FVec F S8x2048 .f32 := subf main_v136 main_v149
  let main_v151 : FVec F S8x2048x2048 .f32 := broadcastInDim S8x2048x2048 ![0, 2] bcast_S8x2048_S8x2048x2048_0_2 main_v150
  let main_v152 : FVec F S8x2048x2048 .f32 := broadcastInDim S8x2048x2048 ![0, 1] bcast_S8x2048_S8x2048x2048_0_1 main_v150
  let main_v153 : FVec F S8x2048x2048 .f32 := subf main_v151 main_v152
  let main_cst_23 : FVec F S_ .f32 := constant S_ .f32 0x00000000#32
  let main_v154 : FVec F S8x2048x2048 .f32 := broadcastInDim S8x2048x2048 ![] bcast_S_S8x2048x2048 main_cst_23
  let main_v155 : FVec F S8x2048x2048 .f32 := maximumf main_v153 main_v154
  let main_cst_24 : FVec F S_ .f32 := constant S_ .f32 0x00000000#32
  let main_v156 : FVec F S8x2048 .f32 := (fun x v => Host.reduceAdd x v reducesTo_S8x2048x2048_S8x2048_d2 h_S_) main_v155 main_cst_24
  let main_cst_25 : FVec F S_ .f32 := constant S_ .f32 0x36800000#32
  let main_v157 : FVec F S8x2048x2048 .f32 := broadcastInDim S8x2048x2048 ![] bcast_S_S8x2048x2048 main_cst_25
  let main_v158 : FVec F S8x2048x2048 .f32 := subf main_v153 main_v157
  let main_cst_26 : FVec F S_ .f32 := constant S_ .f32 0x00000000#32
  let main_v159 : FVec F S8x2048x2048 .f32 := broadcastInDim S8x2048x2048 ![] bcast_S_S8x2048x2048 main_cst_26
  let main_v160 : FVec F S8x2048x2048 .f32 := maximumf main_v158 main_v159
  let main_cst_27 : FVec F S_ .f32 := constant S_ .f32 0x00000000#32
  let main_v161 : FVec F S8x2048 .f32 := (fun x v => Host.reduceAdd x v reducesTo_S8x2048x2048_S8x2048_d2 h_S_) main_v160 main_cst_27
  let main_cst_28 : FVec F S_ .f32 := constant S_ .f32 0x3F800000#32
  fn_part8 (F := F) main_v156 main_v161 main_cst_28

def fn_part6 {F : FTy → Type} [FloatOps F] (main_arg0 : FVec F S8x2048 .f32) (main_v1 : FVec F S8x2048x2048 .f32) (main_v10 : FVec F S8x2048 .f32) (main_v122 : FVec F S8x2048 .f32) (main_v123 : FVec F S8x2048x2048 .f32) : IVec S8 1 :=
  let main_v124 : FVec F S8x2048x2048 .f32 := broadcastInDim S8x2048x2048 ![0, 2] bcast_S8x2048_S8x2048x2048_0_2 main_v122
  let main_v125 : FVec F S8x2048x2048 .f32 := subf main_v123 main_v124
  let main_v126 : FVec F S8x2048x2048 .f32 := mulf main_v125 main_v125
  let main_cst_19 : FVec F S_ .f32 := constant S_ .f32 0x3C23D70A#32
  let main_v127 : FVec F S8x2048x2048 .f32 := broadcastInDim S8x2048x2048 ![] bcast_S_S8x2048x2048 main_cst_19
  let main_v128 : FVec F S8x2048x2048 .f32 := addf main_v126 main_v127
  let main_v129 : FVec F S8x2048x2048 .f32 := Host.sqrt main_v128
  let main_v130 : FVec F S8x2048x2048 .f32 := Host.divf main_v125 main_v129
  let main_v131 : FVec F S8x2048x2048 .f32 := mulf main_v1 main_v130
  let main_cst_20 : FVec F S_ .f32 := constant S_ .f32 0x00000000#32
  let main_v132 : FVec F S8x2048 .f32 := (fun x v => Host.reduceAdd x v reducesTo_S8x2048x2048_S8x2048_d2 h_S_) main_v131 main_cst_20
  let main_v133 : FVec F S8x2048 .f32 := subf main_v122 main_arg0
  let main_v134 : FVec F S8x2048 .f32 := addf main_v133 main_v132
  let main_v135 : FVec F S8x2048 .f32 := mulf main_v10 main_v134
  let main_v136 : FVec F S8x2048 .f32 := subf main_v122 main_v135
  let main_v137 : FVec F S8x2048x2048 .f32 := broadcastInDim S8x2048x2048 ![0, 1] bcast_S8x2048_S8x2048x2048_0_1 main_v136
  let main_v138 : FVec F S8x2048x2048 .f32 := broadcastInDim S8x2048x2048 ![0, 2] bcast_S8x2048_S8x2048x2048_0_2 main_v136
  let main_v139 : FVec F S8x2048x2048 .f32 := subf main_v137 main_v138
  let main_v140 : FVec F S8x2048x2048 .f32 := mulf main_v139 main_v139
  let main_cst_21 : FVec F S_ .f32 := constant S_ .f32 0x3C23D70A#32
  let main_v141 : FVec F S8x2048x2048 .f32 := broadcastInDim S8x2048x2048 ![] bcast_S_S8x2048x2048 main_cst_21
  let main_v142 : FVec F S8x2048x2048 .f32 := addf main_v140 main_v141
  let main_v143 : FVec F S8x2048x2048 .f32 := Host.sqrt main_v142
  let main_v144 : FVec F S8x2048x2048 .f32 := Host.divf main_v139 main_v143
  fn_part7 (F := F) main_arg0 main_v1 main_v10 main_v136 main_v144

def fn_part5 {F : FTy → Type} [FloatOps F] (main_arg0 : FVec F S8x2048 .f32) (main_v1 : FVec F S8x2048x2048 .f32) (main_v10 : FVec F S8x2048 .f32) (main_v94 : FVec F S8x2048 .f32) (main_v102 : FVec F S8x2048x2048 .f32) : IVec S8 1 :=
  let main_v103 : FVec F S8x2048x2048 .f32 := mulf main_v1 main_v102
  let main_cst_16 : FVec F S_ .f32 := constant S_ .f32 0x00000000#32
  let main_v104 : FVec F S8x2048 .f32 := (fun x v => Host.reduceAdd x v reducesTo_S8x2048x2048_S8x2048_d2 h_S_) main_v103 main_cst_16
  let main_v105 : FVec F S8x2048 .f32 := subf main_v94 main_arg0
  let main_v106 : FVec F S8x2048 .f32 := addf main_v105 main_v104
  let main_v107 : FVec F S8x2048 .f32 := mulf main_v10 main_v106
  let main_v108 : FVec F S8x2048 .f32 := subf main_v94 main_v107
  let main_v109 : FVec F S8x2048x2048 .f32 := broadcastInDim S8x2048x2048 ![0, 1] bcast_S8x2048_S8x2048x2048_0_1 main_v108
  let main_v110 : FVec F S8x2048x2048 .f32 := broadcastInDim S8x2048x2048 ![0, 2] bcast_S8x2048_S8x2048x2048_0_2 main_v108
  let main_v111 : FVec F S8x2048x2048 .f32 := subf main_v109 main_v110
  let main_v112 : FVec F S8x2048x2048 .f32 := mulf main_v111 main_v111
  let main_cst_17 : FVec F S_ .f32 := constant S_ .f32 0x3C23D70A#32
  let main_v113 : FVec F S8x2048x2048 .f32 := broadcastInDim S8x2048x2048 ![] bcast_S_S8x2048x2048 main_cst_17
  let main_v114 : FVec F S8x2048x2048 .f32 := addf main_v112 main_v113
  let main_v115 : FVec F S8x2048x2048 .f32 := Host.sqrt main_v114
  let main_v116 : FVec F S8x2048x2048 .f32 := Host.divf main_v111 main_v115
  let main_v117 : FVec F S8x2048x2048 .f32 := mulf main_v1 main_v116
  let main_cst_18 : FVec F S_ .f32 := constant S_ .f32 0x00000000#32
  let main_v118 : FVec F S8x2048 .f32 := (fun x v => Host.reduceAdd x v reducesTo_S8x2048x2048_S8x2048_d2 h_S_) main_v117 main_cst_18
  let main_v119 : FVec F S8x2048 .f32 := subf main_v108 main_arg0
  let main_v120 : FVec F S8x2048 .f32 := addf main_v119 main_v118
  let main_v121 : FVec F S8x2048 .f32 := mulf main_v10 main_v120
  let main_v122 : FVec F S8x2048 .f32 := subf main_v108 main_v121
  let main_v123 : FVec F S8x2048x2048 .f32 := broadcastInDim S8x2048x2048 ![0, 1] bcast_S8x2048_S8x2048x2048_0_1 main_v122
  fn_part6 (F := F) main_arg0 main_v1 main_v10 main_v122 main_v123

def fn_part4 {F : FTy → Type} [FloatOps F] (main_arg0 : FVec F S8x2048 .f32) (main_v1 : FVec F S8x2048x2048 .f32) (main_v10 : FVec F S8x2048 .f32) (main_v80 : FVec F S8x2048 .f32) (main_v81 : FVec F S8x2048x2048 .f32) : IVec S8 1 :=
  let main_v82 : FVec F S8x2048x2048 .f32 := broadcastInDim S8x2048x2048 ![0, 2] bcast_S8x2048_S8x2048x2048_0_2 main_v80
  let main_v83 : FVec F S8x2048x2048 .f32 := subf main_v81 main_v82
  let main_v84 : FVec F S8x2048x2048 .f32 := mulf main_v83 main_v83
  let main_cst_13 : FVec F S_ .f32 := constant S_ .f32 0x3C23D70A#32
  let main_v85 : FVec F S8x2048x2048 .f32 := broadcastInDim S8x2048x2048 ![] bcast_S_S8x2048x2048 main_cst_13
  let main_v86 : FVec F S8x2048x2048 .f32 := addf main_v84 main_v85
  let main_v87 : FVec F S8x2048x2048 .f32 := Host.sqrt main_v86
  let main_v88 : FVec F S8x2048x2048 .f32 := Host.divf main_v83 main_v87
  let main_v89 : FVec F S8x2048x2048 .f32 := mulf main_v1 main_v88
  let main_cst_14 : FVec F S_ .f32 := constant S_ .f32 0x00000000#32
  let main_v90 : FVec F S8x2048 .f32 := (fun x v => Host.reduceAdd x v reducesTo_S8x2048x2048_S8x2048_d2 h_S_) main_v89 main_cst_14
  let main_v91 : FVec F S8x2048 .f32 := subf main_v80 main_arg0
  let main_v92 : FVec F S8x2048 .f32 := addf main_v91 main_v90
  let main_v93 : FVec F S8x2048 .f32 := mulf main_v10 main_v92
  let main_v94 : FVec F S8x2048 .f32 := subf main_v80 main_v93
  let main_v95 : FVec F S8x2048x2048 .f32 := broadcastInDim S8x2048x2048 ![0, 1] bcast_S8x2048_S8x2048x2048_0_1 main_v94
  let main_v96 : FVec F S8x2048x2048 .f32 := broadcastInDim S8x2048x2048 ![0, 2] bcast_S8x2048_S8x2048x2048_0_2 main_v94
  let main_v97 : FVec F S8x2048x2048 .f32 := subf main_v95 main_v96
  let main_v98 : FVec F S8x2048x2048 .f32 := mulf main_v97 main_v97
  let main_cst_15 : FVec F S_ .f32 := constant S_ .f32 0x3C23D70A#32
  let main_v99 : FVec F S8x2048x2048 .f32 := broadcastInDim S8x2048x2048 ![] bcast_S_S8x2048x2048 main_cst_15
  let main_v100 : FVec F S8x2048x2048 .f32 := addf main_v98 main_v99
  let main_v101 : FVec F S8x2048x2048 .f32 := Host.sqrt main_v100
  let main_v102 : FVec F S8x2048x2048 .f32 := Host.divf main_v97 main_v101
  fn_part5 (F := F) main_arg0 main_v1 main_v10 main_v94 main_v102

def fn_part3 {F : FTy → Type} [FloatOps F] (main_arg0 : FVec F S8x2048 .f32) (main_v1 : FVec F S8x2048x2048 .f32) (main_v10 : FVec F S8x2048 .f32) (main_v52 : FVec F S8x2048 .f32) (main_v60 : FVec F S8x2048x2048 .f32) : IVec S8 1 :=
  let main_v61 : FVec F S8x2048x2048 .f32 := mulf main_v1 main_v60
  let main_cst_10 : FVec F S_ .f32 := constant S_ .f32 0x00000000#32
  let main_v62 : FVec F S8x2048 .f32 := (fun x v => Host.reduceAdd x v reducesTo_S8x2048x2048_S8x2048_d2 h_S_) main_v61 main_cst_10
  let main_v63 : FVec F S8x2048 .f32 := subf main_v52 main_arg0
  let main_v64 : FVec F S8x2048 .f32 := addf main_v63 main_v62
  let main_v65 : FVec F S8x2048 .f32 := mulf main_v10 main_v64
  let main_v66 : FVec F S8x2048 .f32 := subf main_v52 main_v65
  let main_v67 : FVec F S8x2048x2048 .f32 := broadcastInDim S8x2048x2048 ![0, 1] bcast_S8x2048_S8x2048x2048_0_1 main_v66
  let main_v68 : FVec F S8x2048x2048 .f32 := broadcastInDim S8x2048x2048 ![0, 2] bcast_S8x2048_S8x2048x2048_0_2 main_v66
  let main_v69 : FVec F S8x2048x2048 .f32 := subf main_v67 main_v68
  let main_v70 : FVec F S8x2048x2048 .f32 := mulf main_v69 main_v69
  let main_cst_11 : FVec F S_ .f32 := constant S_ .f32 0x3C23D70A#32
  let main_v71 : FVec F S8x2048x2048 .f32 := broadcastInDim S8x2048x2048 ![] bcast_S_S8x2048x2048 main_cst_11
  let main_v72 : FVec F S8x2048x2048 .f32 := addf main_v70 main_v71
  let main_v73 : FVec F S8x2048x2048 .f32 := Host.sqrt main_v72
  let main_v74 : FVec F S8x2048x2048 .f32 := Host.divf main_v69 main_v73
  let main_v75 : FVec F S8x2048x2048 .f32 := mulf main_v1 main_v74
  let main_cst_12 : FVec F S_ .f32 := constant S_ .f32 0x00000000#32
  let main_v76 : FVec F S8x2048 .f32 := (fun x v => Host.reduceAdd x v reducesTo_S8x2048x2048_S8x2048_d2 h_S_) main_v75 main_cst_12
  let main_v77 : FVec F S8x2048 .f32 := subf main_v66 main_arg0
  let main_v78 : FVec F S8x2048 .f32 := addf main_v77 main_v76
  let main_v79 : FVec F S8x2048 .f32 := mulf main_v10 main_v78
  let main_v80 : FVec F S8x2048 .f32 := subf main_v66 main_v79
  let main_v81 : FVec F S8x2048x2048 .f32 := broadcastInDim S8x2048x2048 ![0, 1] bcast_S8x2048_S8x2048x2048_0_1 main_v80
  fn_part4 (F := F) main_arg0 main_v1 main_v10 main_v80 main_v81

def fn_part2 {F : FTy → Type} [FloatOps F] (main_arg0 : FVec F S8x2048 .f32) (main_v1 : FVec F S8x2048x2048 .f32) (main_v10 : FVec F S8x2048 .f32) (main_v38 : FVec F S8x2048 .f32) (main_v39 : FVec F S8x2048x2048 .f32) : IVec S8 1 :=
  let main_v40 : FVec F S8x2048x2048 .f32 := broadcastInDim S8x2048x2048 ![0, 2] bcast_S8x2048_S8x2048x2048_0_2 main_v38
  let main_v41 : FVec F S8x2048x2048 .f32 := subf main_v39 main_v40
  let main_v42 : FVec F S8x2048x2048 .f32 := mulf main_v41 main_v41
  let main_cst_7 : FVec F S_ .f32 := constant S_ .f32 0x3C23D70A#32
  let main_v43 : FVec F S8x2048x2048 .f32 := broadcastInDim S8x2048x2048 ![] bcast_S_S8x2048x2048 main_cst_7
  let main_v44 : FVec F S8x2048x2048 .f32 := addf main_v42 main_v43
  let main_v45 : FVec F S8x2048x2048 .f32 := Host.sqrt main_v44
  let main_v46 : FVec F S8x2048x2048 .f32 := Host.divf main_v41 main_v45
  let main_v47 : FVec F S8x2048x2048 .f32 := mulf main_v1 main_v46
  let main_cst_8 : FVec F S_ .f32 := constant S_ .f32 0x00000000#32
  let main_v48 : FVec F S8x2048 .f32 := (fun x v => Host.reduceAdd x v reducesTo_S8x2048x2048_S8x2048_d2 h_S_) main_v47 main_cst_8
  let main_v49 : FVec F S8x2048 .f32 := subf main_v38 main_arg0
  let main_v50 : FVec F S8x2048 .f32 := addf main_v49 main_v48
  let main_v51 : FVec F S8x2048 .f32 := mulf main_v10 main_v50
  let main_v52 : FVec F S8x2048 .f32 := subf main_v38 main_v51
  let main_v53 : FVec F S8x2048x2048 .f32 := broadcastInDim S8x2048x2048 ![0, 1] bcast_S8x2048_S8x2048x2048_0_1 main_v52
  let main_v54 : FVec F S8x2048x2048 .f32 := broadcastInDim S8x2048x2048 ![0, 2] bcast_S8x2048_S8x2048x2048_0_2 main_v52
  let main_v55 : FVec F S8x2048x2048 .f32 := subf main_v53 main_v54
  let main_v56 : FVec F S8x2048x2048 .f32 := mulf main_v55 main_v55
  let main_cst_9 : FVec F S_ .f32 := constant S_ .f32 0x3C23D70A#32
  let main_v57 : FVec F S8x2048x2048 .f32 := broadcastInDim S8x2048x2048 ![] bcast_S_S8x2048x2048 main_cst_9
  let main_v58 : FVec F S8x2048x2048 .f32 := addf main_v56 main_v57
  let main_v59 : FVec F S8x2048x2048 .f32 := Host.sqrt main_v58
  let main_v60 : FVec F S8x2048x2048 .f32 := Host.divf main_v55 main_v59
  fn_part3 (F := F) main_arg0 main_v1 main_v10 main_v52 main_v60

def fn_part1 {F : FTy → Type} [FloatOps F] (main_arg0 : FVec F S8x2048 .f32) (main_v1 : FVec F S8x2048x2048 .f32) (main_v10 : FVec F S8x2048 .f32) (main_v18 : FVec F S8x2048x2048 .f32) : IVec S8 1 :=
  let main_v19 : FVec F S8x2048x2048 .f32 := mulf main_v1 main_v18
  let main_cst_4 : FVec F S_ .f32 := constant S_ .f32 0x00000000#32
  let main_v20 : FVec F S8x2048 .f32 := (fun x v => Host.reduceAdd x v reducesTo_S8x2048x2048_S8x2048_d2 h_S_) main_v19 main_cst_4
  let main_v21 : FVec F S8x2048 .f32 := subf main_arg0 main_arg0
  let main_v22 : FVec F S8x2048 .f32 := addf main_v21 main_v20
  let main_v23 : FVec F S8x2048 .f32 := mulf main_v10 main_v22
  let main_v24 : FVec F S8x2048 .f32 := subf main_arg0 main_v23
  let main_v25 : FVec F S8x2048x2048 .f32 := broadcastInDim S8x2048x2048 ![0, 1] bcast_S8x2048_S8x2048x2048_0_1 main_v24
  let main_v26 : FVec F S8x2048x2048 .f32 := broadcastInDim S8x2048x2048 ![0, 2] bcast_S8x2048_S8x2048x2048_0_2 main_v24
  let main_v27 : FVec F S8x2048x2048 .f32 := subf main_v25 main_v26
  let main_v28 : FVec F S8x2048x2048 .f32 := mulf main_v27 main_v27
  let main_cst_5 : FVec F S_ .f32 := constant S_ .f32 0x3C23D70A#32
  let main_v29 : FVec F S8x2048x2048 .f32 := broadcastInDim S8x2048x2048 ![] bcast_S_S8x2048x2048 main_cst_5
  let main_v30 : FVec F S8x2048x2048 .f32 := addf main_v28 main_v29
  let main_v31 : FVec F S8x2048x2048 .f32 := Host.sqrt main_v30
  let main_v32 : FVec F S8x2048x2048 .f32 := Host.divf main_v27 main_v31
  let main_v33 : FVec F S8x2048x2048 .f32 := mulf main_v1 main_v32
  let main_cst_6 : FVec F S_ .f32 := constant S_ .f32 0x00000000#32
  let main_v34 : FVec F S8x2048 .f32 := (fun x v => Host.reduceAdd x v reducesTo_S8x2048x2048_S8x2048_d2 h_S_) main_v33 main_cst_6
  let main_v35 : FVec F S8x2048 .f32 := subf main_v24 main_arg0
  let main_v36 : FVec F S8x2048 .f32 := addf main_v35 main_v34
  let main_v37 : FVec F S8x2048 .f32 := mulf main_v10 main_v36
  let main_v38 : FVec F S8x2048 .f32 := subf main_v24 main_v37
  let main_v39 : FVec F S8x2048x2048 .f32 := broadcastInDim S8x2048x2048 ![0, 1] bcast_S8x2048_S8x2048x2048_0_1 main_v38
  fn_part2 (F := F) main_arg0 main_v1 main_v10 main_v38 main_v39

def fn {F : FTy → Type} [FloatOps F] (main_arg0 : FVec F S8x2048 .f32) (main_arg1 : FVec F S8x2048x2048 .f32) : IVec S8 1 :=
  let main_v0 : FVec F S8x2048x2048 .f32 := (transpose S8x2048x2048 [0, 2, 1] · transposes_S8x2048x2048_S8x2048x2048_0_2_1) main_arg1
  let main_v1 : FVec F S8x2048x2048 .f32 := addf main_arg1 main_v0
  let main_cst : FVec F S_ .f32 := constant S_ .f32 0x00000000#32
  let main_v2 : FVec F S8x2048 .f32 := (fun x v => Host.reduceAdd x v reducesTo_S8x2048x2048_S8x2048_d2 h_S_) main_v1 main_cst
  let main_cst_0 : FVec F S_ .f32 := constant S_ .f32 0x3C23D70A#32
  let main_v3 : FVec F S_ .f32 := Host.sqrt main_cst_0
  let main_v4 : FVec F S_ .f32 := id main_v3
  let main_v5 : FVec F S8x2048 .f32 := broadcastInDim S8x2048 ![] bcast_S_S8x2048 main_v4
  let main_v6 : FVec F S8x2048 .f32 := Host.divf main_v2 main_v5
  let main_cst_1 : FVec F S_ .f32 := constant S_ .f32 0x3F800000#32
  let main_v7 : FVec F S8x2048 .f32 := broadcastInDim S8x2048 ![] bcast_S_S8x2048 main_cst_1
  let main_v8 : FVec F S8x2048 .f32 := addf main_v7 main_v6
  let main_cst_2 : FVec F S_ .f32 := constant S_ .f32 0x3F800000#32
  let main_v9 : FVec F S8x2048 .f32 := broadcastInDim S8x2048 ![] bcast_S_S8x2048 main_cst_2
  let main_v10 : FVec F S8x2048 .f32 := Host.divf main_v9 main_v8
  let main_v11 : FVec F S8x2048x2048 .f32 := broadcastInDim S8x2048x2048 ![0, 1] bcast_S8x2048_S8x2048x2048_0_1 main_arg0
  let main_v12 : FVec F S8x2048x2048 .f32 := broadcastInDim S8x2048x2048 ![0, 2] bcast_S8x2048_S8x2048x2048_0_2 main_arg0
  let main_v13 : FVec F S8x2048x2048 .f32 := subf main_v11 main_v12
  let main_v14 : FVec F S8x2048x2048 .f32 := mulf main_v13 main_v13
  let main_cst_3 : FVec F S_ .f32 := constant S_ .f32 0x3C23D70A#32
  let main_v15 : FVec F S8x2048x2048 .f32 := broadcastInDim S8x2048x2048 ![] bcast_S_S8x2048x2048 main_cst_3
  let main_v16 : FVec F S8x2048x2048 .f32 := addf main_v14 main_v15
  let main_v17 : FVec F S8x2048x2048 .f32 := Host.sqrt main_v16
  let main_v18 : FVec F S8x2048x2048 .f32 := Host.divf main_v13 main_v17
  fn_part1 (F := F) main_arg0 main_v1 main_v10 main_v18
-- ==== Kernel.lean ====
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S1x1x2048 : Shape := ⟨3, ![1, 1, 2048]⟩
abbrev S1x2048x2048 : Shape := ⟨3, ![1, 2048, 2048]⟩
abbrev S2048x2048 : Shape := ⟨2, ![2048, 2048]⟩
abbrev S2048x1 : Shape := ⟨2, ![2048, 1]⟩
abbrev S1x2048 : Shape := ⟨2, ![1, 2048]⟩
abbrev S1x512x2048 : Shape := ⟨3, ![1, 512, 2048]⟩
abbrev S512x2048 : Shape := ⟨2, ![512, 2048]⟩
abbrev S1x2048x512 : Shape := ⟨3, ![1, 2048, 512]⟩
abbrev S2048x512 : Shape := ⟨2, ![2048, 512]⟩
abbrev S2048 : Shape := ⟨1, ![2048]⟩
abbrev S512x1 : Shape := ⟨2, ![512, 1]⟩
abbrev S1 : Shape := ⟨1, ![1]⟩
abbrev S1x1x1 : Shape := ⟨3, ![1, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S8x2048, .f32⟩
  | .hbm, ⟨5, _⟩ => ⟨S8x1x2048, .f32⟩
  | .hbm, ⟨6, _⟩ => ⟨S8x1x2048, .f32⟩
  | .hbm, ⟨7, _⟩ => ⟨S8x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x2048, .bf16⟩
  | .local _ .vmem, ⟨7, _⟩ => ⟨S2048x1, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c10_i32 : BitVec 32 := 10#32
  let v71 : BitVec 32 := Scalar.addi c0_i32 c10_i32
  let c1_i32 : BitVec 32 := 1#32
  ⟨c0_i32, v71, c1_i32⟩
@[reducible] def k0_t2_loop : Scf.Loop 32 :=
  let c0_i32_62 : BitVec 32 := 0#32
  let c4_i32 : BitVec 32 := 4#32
  let v140 : BitVec 32 := Scalar.addi c0_i32_62 c4_i32
  let c1_i32_63 : BitVec 32 := 1#32
  ⟨c0_i32_62, v140, c1_i32_63⟩
def k0_off1 (k0_t2 : Fin k0_t2_loop.trips) : Fin 2 → Nat :=
  let c0_i32_62 : BitVec 32 := 0#32
  let c1_i32_63 : BitVec 32 := 1#32
  let arg8 : BitVec 32 := Scf.iv c0_i32_62 c1_i32_63 k0_t2
  let c512_i32 : BitVec 32 := 512#32
  let v148 : BitVec 32 := Scalar.muli arg8 c512_i32
  let v149 : Index := Scalar.indexCast v148
  let c0_66 : Index := 0#32
  ![v149.toNat, 0]
def k0_off2 (k0_t2 : Fin k0_t2_loop.trips) : Fin 2 → Nat :=
  let c0_i32_62 : BitVec 32 := 0#32
  let c1_i32_63 : BitVec 32 := 1#32
  let arg8 : BitVec 32 := Scf.iv c0_i32_62 c1_i32_63 k0_t2
  let c512_i32 : BitVec 32 := 512#32
  let v148 : BitVec 32 := Scalar.muli arg8 c512_i32
  let v151 : Index := Scalar.indexCast v148
  let c0_67 : Index := 0#32
  ![v151.toNat, 0]
@[reducible] def k0_t3_loop : Scf.Loop 32 :=
  let c0_i32_41 : BitVec 32 := 0#32
  let c18_i32 : BitVec 32 := 18#32
  let v78 : BitVec 32 := Scalar.addi c0_i32_41 c18_i32
  let c1_i32_42 : BitVec 32 := 1#32
  ⟨c0_i32_41, v78, c1_i32_42⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "eps" => some ((5368709 / 536870912 : ℝ) : EReal)
  | "root_eps" => some ((Real.sqrt (5368709 / 536870912) : ℝ) : EReal)
  | _ => none
-- ==== ReferenceIdeal.lean ====
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S8 : Shape := ⟨1, ![8]⟩
abbrev S8x1 : Shape := ⟨2, ![8, 1]⟩

abbrev nBuf : Space → Nat
  | .hbm => 89
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S8x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .i32⟩
  | .hbm, ⟨24, _⟩ => ⟨S8x2048x2048, .f32⟩
  | .hbm, ⟨25, _⟩ => ⟨S8x2048, .f32⟩
  | .hbm, ⟨26, _⟩ => ⟨S8x2048, .f32⟩
  | .hbm, ⟨27, _⟩ => ⟨S_, .i32⟩
  | .hbm, ⟨28, _⟩ => ⟨S8x2048, .f32⟩
  | .hbm, ⟨29, _⟩ => ⟨S_, .i32⟩
  | .hbm, ⟨30, _⟩ => ⟨S_, .i1⟩
  | .hbm, ⟨31, _⟩ => ⟨S8x2048x1, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S_, .i32⟩
  | .hbm, ⟨53, _⟩ => ⟨S_, .i32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S_, .f32⟩
  | .hbm, ⟨58, _⟩ => ⟨S_, .f32⟩
  | .hbm, ⟨59, _⟩ => ⟨S8x2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S8x2048, .f32⟩
  | .hbm, ⟨66, _⟩ => ⟨S8x2048, .f32⟩
  | .hbm, ⟨67, _⟩ => ⟨S_, .f32⟩
  | .hbm, ⟨68, _⟩ => ⟨S8x2048, .f32⟩
  | .hbm, ⟨69, _⟩ => ⟨S8x2048, .f32⟩
  | .hbm, ⟨70, _⟩ => ⟨S8x2048, .i1⟩
  | .hbm, ⟨71, _⟩ => ⟨S8x2048, .f32⟩
  | .hbm, ⟨72, _⟩ => ⟨S8x2048, .f32⟩
  | .hbm, ⟨73, _⟩ => ⟨S_, .f32⟩
  | .hbm, ⟨74, _⟩ => ⟨S8, .f32⟩
  | .hbm, ⟨75, _⟩ => ⟨S8x1, .f32⟩
  | .hbm, ⟨76, _⟩ => ⟨S_, .f32⟩
  | .hbm, ⟨77, _⟩ => ⟨S8x1, .f32⟩
  | .hbm, ⟨78, _⟩ => ⟨S8x1, .f32⟩
  | .hbm, ⟨79, _⟩ => ⟨S_, .f32⟩
  | .hbm, ⟨80, _⟩ => ⟨S8, .f32⟩
  | .hbm, ⟨81, _⟩ => ⟨S8x1, .f32⟩
  | .hbm, ⟨82, _⟩ => ⟨S8x1, .f32⟩
  | .hbm, ⟨83, _⟩ => ⟨S8x2048, .f32⟩
  | .hbm, ⟨84, _⟩ => ⟨S8x2048, .f32⟩
  | .hbm, ⟨85, _⟩ => ⟨S_, .f32⟩
  | .hbm, ⟨86, _⟩ => ⟨S_, .f32⟩
  | .hbm, ⟨87, _⟩ => ⟨S8x2048, .f32⟩
  | .hbm, ⟨88, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_while0c_c_15 : Ref sig .tc := ⟨.hbm, 29, rfl⟩
abbrev main_while0c_v41 : Ref sig .tc := ⟨.hbm, 30, rfl⟩
abbrev main_while0b_v41 : Ref sig .tc := ⟨.hbm, 31, rfl⟩
abbrev main_while0b_v42 : Ref sig .tc := ⟨.hbm, 32, rfl⟩
abbrev main_while0b_v43 : Ref sig .tc := ⟨.hbm, 33, rfl⟩
abbrev main_while0b_v44 : Ref sig .tc := ⟨.hbm, 34, rfl⟩
abbrev main_while0b_v45 : Ref sig .tc := ⟨.hbm, 35, rfl⟩
abbrev main_while0b_v46 : Ref sig .tc := ⟨.hbm, 36, rfl⟩
abbrev main_while0b_cst_15 : Ref sig .tc := ⟨.hbm, 37, rfl⟩
abbrev main_while0b_v47 : Ref sig .tc := ⟨.hbm, 38, rfl⟩
abbrev main_while0b_v48 : Ref sig .tc := ⟨.hbm, 39, rfl⟩
abbrev main_while0b_v49 : Ref sig .tc := ⟨.hbm, 40, rfl⟩
abbrev main_while0b_v50 : Ref sig .tc := ⟨.hbm, 41, rfl⟩
abbrev main_while0b_v51 : Ref sig .tc := ⟨.hbm, 42, rfl⟩
abbrev main_while0b_cst_16 : Ref sig .tc := ⟨.hbm, 43, rfl⟩
abbrev main_while0b_v52 : Ref sig .tc := ⟨.hbm, 44, rfl⟩
abbrev main_while0b_v53 : Ref sig .tc := ⟨.hbm, 45, rfl⟩
abbrev main_while0b_cst_17 : Ref sig .tc := ⟨.hbm, 46, rfl⟩
abbrev main_while0b_v54 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_v58 : Ref sig .tc := ⟨.hbm, 51, rfl⟩
abbrev main_while0b_c_18 : Ref sig .tc := ⟨.hbm, 52, rfl⟩
abbrev main_while0b_v59 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_call0_cst : Ref sig .tc := ⟨.hbm, 57, rfl⟩
abbrev main_call1_call0_v0 : Ref sig .tc := ⟨.hbm, 58, rfl⟩
abbrev main_v19 : Ref sig .tc := ⟨.hbm, 59, rfl⟩
abbrev main_v20 : Ref sig .tc := ⟨.hbm, 60, rfl⟩
abbrev main_cst_5 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_7 : Ref sig .tc := ⟨.hbm, 73, rfl⟩
abbrev main_v31 : Ref sig .tc := ⟨.hbm, 74, rfl⟩
abbrev main_v32 : Ref sig .tc := ⟨.hbm, 75, rfl⟩
abbrev main_cst_8 : Ref sig .tc := ⟨.hbm, 76, rfl⟩
abbrev main_v33 : Ref sig .tc := ⟨.hbm, 77, rfl⟩
abbrev main_v34 : Ref sig .tc := ⟨.hbm, 78, rfl⟩
abbrev main_cst_9 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_10 : Ref sig .tc := ⟨.hbm, 85, rfl⟩
abbrev main_call2_v0 : Ref sig .tc := ⟨.hbm, 86, rfl⟩
abbrev main_call2_v1 : Ref sig .tc := ⟨.hbm, 87, rfl⟩
abbrev main_v40 : Ref sig .tc := ⟨.hbm, 88, rfl⟩

abbrev nD : Nat := 1
abbrev τ : Topo := Topo.v7x

variable {F : FTy → Type} [FloatOps F]

abbrev main_while0_count : Scf.Loop 32 := ⟨0#32, 10#32, 1#32⟩
-- ==== Proof.KernelIdealRun.lean ====
/-
  The run of the kernel program that the value claim is about: the loop of descent steps by an invariant, the body from
  the input blocks to the output block as one function of those blocks (`bodyOut`), the pipeline's proof data, the launch,
  and the frame claim.
-/
module

public import proofs.«01_k».proof.Proof.Gen.KernelIdeal.Loops
public import proofs.«01_k».proof.Proof.Gen.KernelIdeal.Frame
public import Idealize.ShloMosaic.Lib.Pipeline.Value
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The descent loop as a function of the symmetric matrix, the step sizes and the row -/

/-- The penalty after `k` chunks of rows of the matrix `S`, at the row `y`. -/
def penUpto (S : Vec F S2048x2048 .bf16) (y : FVec F S1x2048 .f32) : ℕ → FVec F S1x2048 .f32
  | 0 => k0_pay15
  | k + 1 =>
    if h : k < k0_t2_loop.trips then
      k0_pay16 y (penUpto S y k)
        (View.ld (k0_pay14 y) (Rect.unit (s := S2048x1) (k0_off1 ⟨k, h⟩) S512x1.size (k0_off1_inb ⟨k, h⟩)))
        (View.ld S (Rect.unit (s := S2048x2048) (k0_off2 ⟨k, h⟩) S512x2048.size (k0_off2_inb ⟨k, h⟩)))
    else penUpto S y k

/-- The row after `k` steps of descent from the row `x`. -/
def zUpto (S : Vec F S2048x2048 .bf16) (v68 x : FVec F S1x2048 .f32) : ℕ → FVec F S1x2048 .f32
  | 0 => x
  | k + 1 => k0_pay17 v68 x (zUpto S v68 x k) (penUpto S (zUpto S v68 x k) k0_t2_loop.trips)

/-- What one trip of the inner loop yields, spelled out. -/
theorem tripR_eq (𝒱 : Variants) (c : Dev nD) (bd : Option 𝒱.V) (i : grid0.Coords) (arg1 : Memref sig .tc .vmem S1x1x2048 .f32) (harg1 : arg1.IsWhole) (arg2 : Memref sig .tc .vmem S1x2048x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S2048x1 .f32) (harg5 : arg5.IsWhole) (v68 : FVec F S1x2048 .f32) (v70 : FVec F S1x2048 .f32) (arg7 : FVec F S1x2048 .f32) (X_arg4 : BufTy.Contents (Elt F) arg4.view.ty) (X_arg5 : BufTy.Contents (Elt F) arg5.view.ty) (k : Fin k0_t2_loop.trips) (acc : FVec F S1x2048 .f32) :
    tripR_k0_t2 (F := F) 𝒱 c bd i arg1 harg1 arg2 harg2 arg3 harg3 arg4 harg4 arg5 harg5 v68 v70 arg7 X_arg4 X_arg5 k acc
      = k0_pay16 arg7 acc (View.ld (arg5.view.read (Elt F) X_arg5) (Rect.unit (s := S2048x1) (k0_off1 k) S512x1.size (k0_off1_inb k)))
        (View.ld (arg4.view.read (Elt F) X_arg4) (Rect.unit (s := S2048x2048) (k0_off2 k) S512x2048.size (k0_off2_inb k))) := by
  unfold tripR_k0_t2 trip_k0_t2
  rfl

/-- The inner loop's carried value is the penalty so far, when the two scratch buffers read as the matrix and the column. -/
theorem st_eq (𝒱 : Variants) (c : Dev nD) (bd : Option 𝒱.V) (i : grid0.Coords) (arg1 : Memref sig .tc .vmem S1x1x2048 .f32) (harg1 : arg1.IsWhole) (arg2 : Memref sig .tc .vmem S1x2048x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S2048x1 .f32) (harg5 : arg5.IsWhole) (v68 : FVec F S1x2048 .f32) (v70 : FVec F S1x2048 .f32) (arg7 : FVec F S1x2048 .f32) (X_arg4 : BufTy.Contents (Elt F) arg4.view.ty) (X_arg5 : BufTy.Contents (Elt F) arg5.view.ty)
    (S : Vec F S2048x2048 .bf16) (h4 : arg4.view.read (Elt F) X_arg4 = S) (h5 : arg5.view.read (Elt F) X_arg5 = k0_pay14 arg7) (k : ℕ) (hk : k ≤ k0_t2_loop.trips) :
    st_k0_t2 (F := F) 𝒱 c bd i arg1 harg1 arg2 harg2 arg3 harg3 arg4 harg4 arg5 harg5 v68 v70 arg7 X_arg4 X_arg5 k0_pay15 k
      = penUpto S arg7 k := by
  induction k with
  | zero => rfl
  | succ k ih =>
    have hlt : k < k0_t2_loop.trips := hk
    rw [st_k0_t2_succ (F := F) 𝒱 c bd i arg1 harg1 arg2 harg2 arg3 harg3 arg4 harg4 arg5 harg5 v68 v70 arg7 X_arg4 X_arg5 k0_pay15 ⟨k, hlt⟩]
    rw [tripR_eq, h4, h5, ih (Nat.le_of_lt hlt)]
    show _ = (if h : k < k0_t2_loop.trips then _ else _)
    rw [dif_pos hlt]

/-! ## The outer loop's invariant -/

/-- A single store through the whole of the column's buffer leaves the stored column. -/
theorem read_col (arg5 : Memref sig .tc .vmem S2048x1 .f32) (f : BufTy.Contents (Elt F) arg5.view.ty) (w : Vec F S2048x1 .f32) :
    arg5.view.read (Elt F) (arg5.view.writes (Elt F) f [⟨Rect.unit (s := S2048x1) ![0, 0] S2048x1.size inb_S2048x1_S2048x1_0_0, w⟩]) = w := by
  have hz : (![0, 0] : Fin S2048x1.rank → Nat) = fun _ => 0 := funext fun a => by fin_cases a <;> rfl
  rw [View.read_writes_eq_canon _ _ _ (fun y => View.cover_of_tiled [⟨Rect.unit (s := S2048x1) ![0, 0] S2048x1.size inb_S2048x1_S2048x1_0_0, w⟩] S2048x1.size (by rfl) y)]
  exact View.canon_unit_zero (S := S2048x1) hz _ _

/-- Before step `k`: the matrix's buffer at its contents, the column's at anything, the row at `k` steps. -/
abbrev inv1 (c : Dev nD) (arg4 : Memref sig .tc .vmem S2048x2048 .bf16) (arg5 : Memref sig .tc .vmem S2048x1 .f32)
    (v68 v70 : FVec F S1x2048 .f32) (X_arg4 : BufTy.Contents (Elt F) arg4.view.ty) (k : ℕ) (acc : FVec F S1x2048 .f32) : sProp 𝕄 :=
  iprop((arg4.view.loc (c : Thread nD τ) ↦[arg4.view.set]{fullShare} X_arg4)
    ∗ (∃ X_arg5 : BufTy.Contents (Elt F) arg5.view.ty, (arg5.view.loc (c : Thread nD τ) ↦[arg5.view.set]{fullShare} X_arg5))
    ∗ ⌜acc = zUpto (arg4.view.read (Elt F) X_arg4) v68 v70 k⌝)

/-- One step of descent. -/
theorem step1 (c : Dev nD) (E : Set ℕ) (i : grid0.Coords) (arg1 : Memref sig .tc .vmem S1x1x2048 .f32) (harg1 : arg1.IsWhole) (arg2 : Memref sig .tc .vmem S1x2048x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S2048x1 .f32) (harg5 : arg5.IsWhole) (v68 : FVec F S1x2048 .f32) (v70 : FVec F S1x2048 .f32) (X_arg4 : BufTy.Contents (Elt F) arg4.view.ty) (X_arg5 : BufTy.Contents (Elt F) arg5.view.ty) (k : Fin k0_t1_loop.trips) (acc : FVec F S1x2048 .f32) :
    Trip_k0_t2 (F := F) c arg4 arg5 X_arg4 X_arg5
    ⊢ wp frame (wpE (defs₀ (F := F)) Variants.none (c : Thread nD τ) none) E (k0_t1_body (F := F) i arg1 harg1 arg2 harg2 arg3 harg3 arg4 harg4 arg5 harg5 v68 v70 k acc)
        (fun yld => iprop(⌜yld = k0_pay17 v68 v70 acc (penUpto (arg4.view.read (Elt F) X_arg4) acc k0_t2_loop.trips)⌝
          ∗ (arg4.view.loc (c : Thread nD τ) ↦[arg4.view.set]{fullShare} X_arg4)
          ∗ ∃ X : BufTy.Contents (Elt F) arg5.view.ty, (arg5.view.loc (c : Thread nD τ) ↦[arg5.view.set]{fullShare} X))) := by
  unfold k0_t1_body
  iintro ⟨H4, H5⟩
  sl_exec
  sl_step
  isplitr
  · ipureintro
    exact congrArg (k0_pay17 v68 v70 acc) (st_eq (F := F) Variants.none c none i arg1 harg1 arg2 harg2 arg3 harg3 arg4 harg4 arg5 harg5 v68 v70 acc X_arg4 _ _ rfl
      (read_col arg5 _ (k0_pay14 acc)) _ (Nat.le_refl _))
  isplitl [H4]; · iexact H4
  iexists _; iexact H5

set_option warn.classDefReducibility false in
/-- The loop of descent steps, by its invariant. -/
@[sl_loop] def loopInv_k0_t1 (c : Dev nD) (E : Set ℕ) (i : grid0.Coords) (arg1 : Memref sig .tc .vmem S1x1x2048 .f32) (harg1 : arg1.IsWhole) (arg2 : Memref sig .tc .vmem S1x2048x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S2048x1 .f32) (harg5 : arg5.IsWhole) (v68 : FVec F S1x2048 .f32) (v70 : FVec F S1x2048 .f32) (X_arg4 : BufTy.Contents (Elt F) arg4.view.ty) :
    LoopInvTy_k0_t1 (F := F) Unit ℕ (UR sig nD τ) ℕ Variants.none c none E i arg1 harg1 arg2 harg2 arg3 harg3 arg4 harg4 arg5 harg5 v68 v70 v70 where
  inv := inv1 c arg4 arg5 v68 v70 X_arg4
  step k acc := by
    iintro ⟨H4, ⟨%X5, H5⟩, %h⟩
    subst h
    iapply (wp_wand_r Idealize.ShloMosaic.frame (wpE (defs₀ (F := F)) Variants.none (c : Thread nD τ) none) E)
    isplitl [H4 H5]
    · iapply (step1 c E i arg1 harg1 arg2 harg2 arg3 harg3 arg4 harg4 arg5 harg5 v68 v70 X_arg4 X5 k _)
      isplitl [H4]; · iexact H4
      iexact H5
    · iintro %yld ⟨%hy, H4, ⟨%X, H5⟩⟩
      isplitl [H4]; · iexact H4
      isplitl [H5]; · iexists X; iexact H5
      ipureintro; rw [hy]; rfl

/-- The zero offset of rank three, as a constant function. -/
theorem hz3 : (![0, 0, 0] : Fin 3 → ℕ) = fun _ => 0 := by funext a; fin_cases a <;> rfl

/-! ## The body: from the input blocks to the output block -/

/-- Chunk `n` of 512 rows of the matrix block, -/
abbrev rowsRect (n : ℕ) (h : ∀ a, (![0, n, 0] : Fin S1x2048x2048.rank → ℕ) a + S1x512x2048.size a ≤ S1x2048x2048.size a) : Rect S1x2048x2048 :=
  Rect.unit (s := S1x2048x2048) ![0, n, 0] S1x512x2048.size h
/-- and of 512 columns. -/
abbrev colsRect (n : ℕ) (h : ∀ a, (![0, 0, n] : Fin S1x2048x2048.rank → ℕ) a + S1x2048x512.size a ≤ S1x2048x2048.size a) : Rect S1x2048x2048 :=
  Rect.unit (s := S1x2048x2048) ![0, 0, n] S1x2048x512.size h

abbrev a0 (A : Vec F S1x2048x2048 .f32) : Vec F S1x512x2048 .f32 := View.ld A (rowsRect 0 inb_S1x2048x2048_S1x512x2048_0_0_0)
abbrev a1 (A : Vec F S1x2048x2048 .f32) : Vec F S1x512x2048 .f32 := View.ld A (rowsRect 512 inb_S1x2048x2048_S1x512x2048_0_512_0)
abbrev a2 (A : Vec F S1x2048x2048 .f32) : Vec F S1x512x2048 .f32 := View.ld A (rowsRect 1024 inb_S1x2048x2048_S1x512x2048_0_1024_0)
abbrev a3 (A : Vec F S1x2048x2048 .f32) : Vec F S1x512x2048 .f32 := View.ld A (rowsRect 1536 inb_S1x2048x2048_S1x512x2048_0_1536_0)
abbrev b0 (A : Vec F S1x2048x2048 .f32) : Vec F S1x2048x512 .f32 := View.ld A (colsRect 0 inb_S1x2048x2048_S1x2048x512_0_0_0)
abbrev b1 (A : Vec F S1x2048x2048 .f32) : Vec F S1x2048x512 .f32 := View.ld A (colsRect 512 inb_S1x2048x2048_S1x2048x512_0_0_512)
abbrev b2 (A : Vec F S1x2048x2048 .f32) : Vec F S1x2048x512 .f32 := View.ld A (colsRect 1024 inb_S1x2048x2048_S1x2048x512_0_0_1024)
abbrev b3 (A : Vec F S1x2048x2048 .f32) : Vec F S1x2048x512 .f32 := View.ld A (colsRect 1536 inb_S1x2048x2048_S1x2048x512_0_0_1536)

/-- The four stores of the symmetric matrix, the last first. -/
abbrev symPieces (p3 p2 p1 p0 : Vec F S512x2048 .bf16) : List (View.Piece (Elt F) S2048x2048 .bf16) :=
  [⟨Rect.unit (s := S2048x2048) ![1536, 0] S512x2048.size inb_S2048x2048_S512x2048_1536_0, p3⟩,
   ⟨Rect.unit (s := S2048x2048) ![1024, 0] S512x2048.size inb_S2048x2048_S512x2048_1024_0, p2⟩,
   ⟨Rect.unit (s := S2048x2048) ![512, 0] S512x2048.size inb_S2048x2048_S512x2048_512_0, p1⟩,
   ⟨Rect.unit (s := S2048x2048) ![0, 0] S512x2048.size inb_S2048x2048_S512x2048_0_0, p0⟩]

/-- They tile the matrix. -/
theorem symCover (p3 p2 p1 p0 : Vec F S512x2048 .bf16) (y : S2048x2048.Idx) :
    ∃ pc ∈ symPieces p3 p2 p1 p0, y ∈ pc.1.set :=
  View.cover_of_tiled (symPieces p3 p2 p1 p0) S512x2048.size (by rfl) y

/-- The symmetric matrix as stored. -/
def symMat (A : Vec F S1x2048x2048 .f32) : Vec F S2048x2048 .bf16 :=
  View.canon (symPieces (k0_pay11 (a3 A) (b3 A)) (k0_pay9 (k0_pay7 (a2 A)) (b2 A)) (k0_pay6 (a1 A) (b1 A)) (k0_pay3 (a0 A) (b0 A)))

/-- The step sizes. -/
def stepRow (A : Vec F S1x2048x2048 .f32) : FVec F S1x2048 .f32 :=
  k0_pay12 (k0_pay5 (a0 A) (b0 A) (a1 A) (b1 A)) (k0_pay7 (a2 A)) (b2 A) (a3 A) (b3 A)

/-- The row after the descent. -/
def fused (x : Vec F S1x1x2048 .f32) (A : Vec F S1x2048x2048 .f32) : FVec F S1x2048 .f32 :=
  zUpto (symMat A) (stepRow A) (k0_pay13 x) k0_t1_loop.trips

/-- The bisection's two ends. -/
def bisected (v72 : FVec F S1x2048 .f32) : F .f32 × F .f32 :=
  Scf.fold (fun (_ : Fin k0_t3_loop.trips) (p : F .f32 × F .f32) => (k0_pay21 v72 p.1 p.2, k0_pay22 v72 p.1 p.2)) (k0_pay19 v72, k0_pay18 v72)

/-- The output block. -/
def bodyOut (x : Vec F S1x1x2048 .f32) (A : Vec F S1x2048x2048 .f32) : Vec F S1x1x2048 .f32 :=
  k0_pay1 (fused x A) (k0_pay23 (fused x A) (bisected (fused x A)).1) (k0_pay24 (fused x A) (bisected (fused x A)).1)

set_option maxHeartbeats 4000000 in
/-- The body on whole staging buffers, the inputs' at read contents and the rest at anything, runs to its return with the
    inputs' as they were and the output's at `bodyOut` of them. -/
theorem sound_kernel (c : Dev nD) (E : Set ℕ) (i : grid0.Coords) (arg1 : Memref sig .tc .vmem S1x1x2048 .f32) (harg1 : arg1.IsWhole) (arg2 : Memref sig .tc .vmem S1x2048x2048 .f32) (harg2 : arg2.IsWhole) (arg3 : Memref sig .tc .vmem S1x1x2048 .f32) (harg3 : arg3.IsWhole) (arg4 : Memref sig .tc .vmem S2048x2048 .bf16) (harg4 : arg4.IsWhole) (arg5 : Memref sig .tc .vmem S2048x1 .f32) (harg5 : arg5.IsWhole)
    (x : Vec F S1x1x2048 .f32) (A : Vec F S1x2048x2048 .f32) (K : PUnit → sProp 𝕄) :
    iprop(owns (c : Thread nD τ) arg1 fullShare x ∗ owns (c : Thread nD τ) arg2 fullShare A ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare A ∗ owns (c : Thread nD τ) arg3 fullShare (bodyOut x A)
          ∗ (∃ d, owns (c : Thread nD τ) arg4 fullShare d) ∗ (∃ d, owns (c : Thread nD τ) arg5 fullShare d)) -∗ K ⟨⟩))
      ⊢ wp frame (wpE (defs₀ (F := F)) Variants.none c none) E
        (cc0__gfusedmax_body i arg1 harg1 arg2 harg2 arg3 harg3 arg4 harg4 arg5 harg5) K := by
  simp only [cc0__gfusedmax_body_eq_skeleton]; unfold cc0__gfusedmax_body_skel
  simp only [k0_part1_eq_skeleton, k0_part2_eq_skeleton, k0_part3_eq_skeleton]
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    have hS : View.read (Elt F) arg4.view (arg4.view.writes (Elt F) arg4.view.junk (sound_kernel.sl.H4_4 c arg2 f2)) = symMat (View.read (Elt F) arg2.view f2) :=
      View.read_writes_eq_canon _ _ _ (symCover _ _ _ _)
    have hr5 : sound_kernel.sl.r_5 c arg1 arg2 arg4 f1 f2 = fused (View.read (Elt F) arg1.view f1) (View.read (Elt F) arg2.view f2) := by
      unfold sound_kernel.sl.r_5 fused; rw [hS]
      refine congrArg (fun x => zUpto (symMat (View.read (Elt F) arg2.view f2)) (stepRow (View.read (Elt F) arg2.view f2)) x k0_t1_loop.trips) ?_
      exact congrArg k0_pay13 (View.ld_unit_zero (S := S1x1x2048) hz3 _ (View.read (Elt F) arg1.view f1))
    have hr4 : sound_kernel.sl.r_4 c arg1 arg2 arg4 f1 f2 = bisected (fused (View.read (Elt F) arg1.view f1) (View.read (Elt F) arg2.view f2)) := by
      rw [← hr5]; rfl
    refine (View.read_writes_eq_canon _ _ _ (fun y => ⟨_, List.mem_singleton_self _, View.mem_set_unit_zero (S := S1x1x2048) hz3 inb_S1x1x2048_S1x1x2048_0_0_0 y⟩)).trans ?_
    refine (View.canon_unit_zero (S := S1x1x2048) hz3 _ _).trans ?_
    unfold bodyOut
    rw [← hr4, ← hr5]
    rfl
  isplitl [H4]
  · iexists _; iexists _; isplitr
    swap; · iexact H4
    ipureintro; rfl
  iexists _; iexists _; isplitr
  swap; · iexact H5
  ipureintro; rfl

/-! ## The pipeline's proof data -/

variable (m : (ℓ : Loc nD τ sig) → Buf (Elt F) ℓ) (ρ : Dev nD → PrngReg)

/-- The proof data of the one pipeline on core `c`: the arrays as the region finds them; after the body at point `t` each
    input's buffer at its block and the output's at `bodyOut` of the blocks; the invariant the two scratch buffers at
    anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bodyOut (iblk m c 0 t) (iblk m c 1 t)
  Φ _ := Pipeline.ΦA spec0 c
  q _ := fullShare
  owed _ := 0

/-- Each window starts from the array the run holds for it. -/
theorem A_eq (c : Dev nD) (w : Fin cfg0.W) : (dats m 0 c).A w = V m c (Pipeline.arrRef spec0 w) := by
  dsimp only [dats]

/-- The row window holds its block after a step. -/
theorem after0_0 (c : Dev nD) (t : Fin cfg0.N) : (dats m 0 c).after 0 t = iblk m c 0 t := by dsimp only [dats]
/-- The matrix window holds its block after a step. -/
theorem after0_1 (c : Dev nD) (t : Fin cfg0.N) : (dats m 0 c).after 1 t = iblk m c 1 t := by dsimp only [dats]
/-- The result window holds the body's result after a step. -/
theorem after0_2 (c : Dev nD) (t : Fin cfg0.N) : (dats m 0 c).after 2 t = bodyOut (iblk m c 0 t) (iblk m c 1 t) := by dsimp only [dats]

/-- The row window holds its block before a step. -/
theorem before0_0 (c : Dev nD) (t : Fin cfg0.N) (d) : (dats m 0 c).before 0 t d = iblk m c 0 t :=
  before0_0_of m (dats m 0 c) (A_eq m c 0) (after0_0 m c) t d
/-- The matrix window holds its block before a step. -/
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The two scratch buffers, as the body's triple takes them. -/
theorem scratch_eq (c : Dev nD) :
    (Pipeline.scopedRest (Ix := Unit) (Val := Elt F) (Name := ℕ) (U := UR sig nD τ) (Lvl := ℕ) spec0 c : sProp 𝕄)
      = iprop((∃ d, owns (c : Thread nD τ) (Memref.whole cc0_scratch0) fullShare d) ∗ (∃ d, owns (c : Thread nD τ) (Memref.whole cc0_scratch1) fullShare d)) := by
  rw [scopedRest0_eq]; simp only [owns_whole]

/-- The body at any point: the inputs' buffers hold their blocks, the scratch buffers anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2]
  unfold Pipeline.ΦA
  rw [scratch_eq]
  iintro ⟨⟨⟨G0, G1⟩, Hr⟩, Ho, ⟨%d0, H0⟩, ⟨%d1, H1⟩, ⟨%d2, H2⟩⟩
  iapply (sound_kernel c Set.univ _ _ _ _ _ _ _ _ _ _ _ (iblk m c 0 t) (iblk m c 1 t) _)
  isplitl [H0]; · iexact H0
  isplitl [H1]; · iexact H1
  isplitl [H2]; · iexists _; iexact H2
  isplitl [G0]; · iexact G0
  isplitl [G1]; · iexact G1
  iintro ⟨H0, H1, H2, G0, G1⟩
  isplitl [G0 G1 Hr]
  · isplitl [G0 G1]
    · isplitl [G0]
      · iexact G0
      iexact G1
    iexact Hr
  isplitl [Ho]; · iexact Ho
  isplitl [H0]; · iexact H0
  isplitl [H1]; · iexact H1
  iexact H2

/-- The pipeline's body at a step is the kernel's body on that step's windows. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- The launch: every array of the pipeline ends at what the library computes from the proof data, every other unscoped
    buffer at what the host operations after the region leave, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run of the program ends with the buffers the pipeline leaves. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame claim, at any float format: the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.KernelIdeal

end
-- ==== Proof.Row.lean ====
/-
  One batch row of the layer over the extended reals, as plain functions of the row: the descent both programs run
  (`descend`), the kernel's way to the threshold (`bisect`, then Newton steps `refine`) and the reference's (`ranked`, read
  off the sorted row).
-/
module

public import Idealize.ShloMosaic.Lib.Pointwise

@[expose] public section

noncomputable section

namespace Cert.Proof.Row

open Idealize.ShloMosaic

variable {ι : Type} [Fintype ι]

/-- The smoothing constant: the f32 nearest 0.01. -/
def eps : EReal := ((5368709 / 536870912 : ℝ) : EReal)

/-- Its square root. -/
def rootEps : EReal := ((Real.sqrt (5368709 / 536870912) : ℝ) : EReal)

/-- The slope of the smoothed absolute value. -/
def smooth (d : EReal) : EReal := Ideal.div d (Ideal.sqrt (d * d + eps))

/-- The penalty's gradient at entry `j`. -/
def pen (sym : ι → ι → EReal) (z : ι → EReal) (j : ι) : EReal := ∑ k, sym j k * smooth (z j - z k)

/-- The step size of entry `j`. -/
def size (sym : ι → ι → EReal) (j : ι) : EReal := Ideal.div 1 (1 + Ideal.div (∑ k, sym j k) rootEps)

/-- One step of descent. -/
def descend (sym : ι → ι → EReal) (x z : ι → EReal) (j : ι) : EReal := z j - size sym j * ((z j - x j) + pen sym z j)

/-- The row after `n` steps. -/
def settled (sym : ι → ι → EReal) (x : ι → EReal) (n : ℕ) : ι → EReal := (descend sym x)^[n] x

/-- One more step of the descent. -/
theorem settled_succ (sym : ι → ι → EReal) (x : ι → EReal) (n : ℕ) :
    settled sym x (n + 1) = descend sym x (settled sym x n) := Function.iterate_succ_apply' _ _ _

/-- What the row exceeds `t` by, summed. -/
def over (z : ι → EReal) (t : EReal) : EReal := ∑ k, max (z k - t) 0

/-- A Newton step towards the threshold. -/
def refine (z : ι → EReal) (t : EReal) : EReal :=
  Ideal.div ((∑ k, if t < z k then z k else 0) - 1) (∑ k, if t < z k then 1 else 0)

/-- One halving of the interval. -/
def bisect (z : ι → EReal) (p : EReal × EReal) : EReal × EReal :=
  if 0 ≤ over z (((1 / 2 : ℝ) : EReal) * (p.1 + p.2)) - 1 then (((1 / 2 : ℝ) : EReal) * (p.1 + p.2), p.2)
  else (p.1, ((1 / 2 : ℝ) : EReal) * (p.1 + p.2))

/-- The greatest entry. -/
def peak (z : ι → EReal) : EReal := Finset.univ.sup z

/-- The kernel's threshold: eighteen halvings, then three Newton steps from the lower end. -/
def found (z : ι → EReal) : EReal := refine z (refine z (refine z ((bisect z)^[18] (peak z - 1, peak z)).1))

/-- Whether the entry of rank `r` (zero the greatest) of a sorted row is above the threshold, as a number. -/
def kept {n : ℕ} (s : Fin n → EReal) (r : Fin n) : EReal :=
  if (∑ q ∈ Finset.univ.filter (· ≤ r), s q) < 1 + (1 + ((r.val : ℝ) : EReal)) * s r then 1 else 0

/-- The reference's threshold, off the row in descending order. -/
def ranked {n : ℕ} (s : Fin n → EReal) : EReal := Ideal.div ((∑ r, s r * kept s r) - 1) (∑ r, kept s r)

/-- Entry `j` is below the threshold by less than `2⁻¹⁸`: at it the row exceeds by more than one, `2⁻¹⁸` above it by less. -/
def Close (z : ι → EReal) (j : ι) : Prop :=
  1 < over z (z j) ∧ (∑ k, max ((z k - z j) - (((1 / 2) ^ 18 : ℝ) : EReal)) 0) < 1

/-- A quotient by the root is a product with the reciprocal root. -/
theorem smooth_eq (d : EReal) : d * Ideal.rsqrt (d * d + eps) = smooth d := by
  unfold smooth eps
  induction d with
  | bot =>
    rw [show ((⊥ : EReal) * ⊥ + ((5368709 / 536870912 : ℝ) : EReal)) = ⊤ from by
      rw [EReal.bot_mul_bot]; exact EReal.top_add_coe _]
    rw [show Ideal.rsqrt ⊤ = 0 from rfl, show Ideal.sqrt ⊤ = ⊤ from rfl]
    simp [Ideal.div]
  | top =>
    rw [show ((⊤ : EReal) * ⊤ + ((5368709 / 536870912 : ℝ) : EReal)) = ⊤ from by
      rw [EReal.top_mul_top]; exact EReal.top_add_coe _]
    rw [show Ideal.rsqrt ⊤ = 0 from rfl, show Ideal.sqrt ⊤ = ⊤ from rfl]
    simp [Ideal.div]
  | coe r =>
    have hp : 0 < r * r + 5368709 / 536870912 := by have := mul_self_nonneg r; linarith
    have hs : Real.sqrt (r * r + 5368709 / 536870912) ≠ 0 := (Real.sqrt_pos.mpr hp).ne'
    rw [← EReal.coe_mul, ← EReal.coe_add]
    rw [show Ideal.rsqrt ((r * r + 5368709 / 536870912 : ℝ) : EReal) = ((Real.sqrt (r * r + 5368709 / 536870912))⁻¹ : ℝ) from
        (if_neg hp.not_gt).trans (if_neg hp.ne'),
      show Ideal.sqrt ((r * r + 5368709 / 536870912 : ℝ) : EReal) = (Real.sqrt (r * r + 5368709 / 536870912) : ℝ) from if_neg hp.not_gt,
      Ideal.div_coe hs, one_div]

/-- Division by one changes nothing. -/
theorem div_one (x : EReal) : Ideal.div x 1 = x := by
  simp [Ideal.div]

/-- The bits of the smoothing constant. -/
theorem eps_bits : Ideal.ofBits .f32 0x3C23D70A#32 = eps := by
  unfold eps
  simp [Ideal.ofBits, Ideal.ieee]
  norm_num [zpow_neg]
  rw [← EReal.coe_mul]
  norm_num

/-- The square root of the smoothing constant. -/
theorem root_bits : Ideal.sqrt (Ideal.ofBits .f32 0x3C23D70A#32) = rootEps := by
  rw [eps_bits]
  exact if_neg (by norm_num)

/-- The bits of a half. -/
theorem half_bits : Ideal.ofBits .f32 0x3F000000#32 = ((1 / 2 : ℝ) : EReal) := by
  simp [Ideal.ofBits, Ideal.ieee]
  norm_num [zpow_neg]
  rw [← EReal.coe_mul]
  norm_num

/-- The bits of two. -/
theorem two_bits : Ideal.ofBits .f32 0x40000000#32 = ((2 : ℝ) : EReal) := by
  simp [Ideal.ofBits, Ideal.ieee]
  norm_num [zpow_neg]
  rw [← EReal.coe_mul]
  norm_num

/-- The bits of `2⁻¹⁸`, the width the bisection ends with. -/
theorem width_bits : Ideal.ofBits .f32 0x36800000#32 = (((1 / 2) ^ 18 : ℝ) : EReal) := by
  simp [Ideal.ofBits, Ideal.ieee]
  norm_num [zpow_neg]
  rw [← EReal.coe_mul]
  norm_num

/-- The bits of minus infinity. -/
theorem bot_bits : Ideal.ofBits .f32 0xFF800000#32 = ⊥ := by
  simp [Ideal.ofBits, Ideal.ieee]

end Cert.Proof.Row
end
-- ==== Proof.KernelValue.lean ====
/-
  The kernel's output block, read at an entry: the row functions of `Row` applied to the block's row and its symmetrized
  matrix.
-/
module

public import proofs.«01_k».proof.Proof.KernelIdealRun
public import proofs.«01_k».proof.Proof.Row

@[expose] public section

set_option maxRecDepth 16384

noncomputable section

namespace Cert.Proof.KernelIdeal

open Cert.KernelIdeal Cert.KernelIdeal.Gen Cert.Proof.Row
open Idealize.ShloMosaic

/-- The row of a block. -/
abbrev rowOf (y : FVec Ideal S1x2048 .f32) (j : Fin 2048) : EReal := y (ix2 0 j)

/-- The symmetrized matrix of a block. -/
abbrev symOf (A : Vec Ideal S1x2048x2048 .f32) (j k : Fin 2048) : EReal := A (ix3 0 j k) + A (ix3 0 k j)

/-- A sum over 2048 entries, in four runs of 512. -/
theorem sum_quarters (f : Fin 2048 → EReal) :
    ∑ k, f k = (∑ k : Fin 512, f ⟨k, by omega⟩) + (∑ k : Fin 512, f ⟨512 + k, by omega⟩)
      + (∑ k : Fin 512, f ⟨1024 + k, by omega⟩) + ∑ k : Fin 512, f ⟨1536 + k, by omega⟩ := by
  rw [Fin.sum_univ_add (a := 1536) (b := 512) f, Fin.sum_univ_add (a := 1024) (b := 512),
    Fin.sum_univ_add (a := 512) (b := 512)]
  rfl

/-- The two named constants. -/
theorem named_eps : (Named.named κ "eps" 0x3C24#16 : Ideal .bf16) = eps := rfl
/-- The named root is the square root of the named constant. -/
theorem named_root : (Named.named κ "root_eps" 0x3DCCCCCD#32 : Ideal .f32) = rootEps := rfl

/-- One column block's product, read at an entry. -/
theorem pay16_apply (y acc : FVec Ideal S1x2048 .f32) (yc : Vec Ideal S512x1 .f32) (sc : Vec Ideal S512x2048 .bf16) (j : Fin 2048) :
    k0_pay16 y acc yc sc (ix2 0 j) = acc (ix2 0 j) + ∑ r : Fin 512, sc (ix2 r j) * smooth (y (ix2 0 j) - yc (ix2 r 0)) := by
  pointwise [k0_pay16]
  rw [named_eps]
  exact congrArg _ (Finset.sum_congr rfl fun k _ => congrArg _ (smooth_eq _))

/-- The descent's new row, read at an entry. -/
theorem pay17_apply (v x y p : FVec Ideal S1x2048 .f32) (j : Fin 2048) :
    k0_pay17 v x y p (ix2 0 j) = y (ix2 0 j) - v (ix2 0 j) * ((y (ix2 0 j) - x (ix2 0 j)) + p (ix2 0 j)) := by
  pointwise [k0_pay17]

/-- The row turned into a column, read at an entry. -/
theorem pay14_apply (y : FVec Ideal S1x2048 .f32) (j : Fin 2048) : k0_pay14 y (ix2 j 0) = y (ix2 0 j) := by
  pointwise [k0_pay14]

/-- The row loaded from its window, read at an entry. -/
theorem pay13_apply (x : Vec Ideal S1x1x2048 .f32) (j : Fin 2048) : k0_pay13 x (ix2 0 j) = x (ix3 0 0 j) := by
  pointwise [k0_pay13]

/-- The zero row, read at an entry. -/
theorem pay15_apply (j : Fin 2048) : k0_pay15 (F := Ideal) (ix2 0 j) = 0 := by
  pointwise [k0_pay15]

/-- The first strip's symmetric part, read at an entry. -/
theorem pay3_apply (a : Vec Ideal S1x512x2048 .f32) (b : Vec Ideal S1x2048x512 .f32) (r : Fin 512) (j : Fin 2048) :
    k0_pay3 a b (ix2 r j) = a (ix3 0 r j) + b (ix3 0 j r) := by
  pointwise [k0_pay3, k0_pay2]

/-- The second strip's symmetric part, read at an entry. -/
theorem pay6_apply (a : Vec Ideal S1x512x2048 .f32) (b : Vec Ideal S1x2048x512 .f32) (r : Fin 512) (j : Fin 2048) :
    k0_pay6 a b (ix2 r j) = a (ix3 0 r j) + b (ix3 0 j r) := by
  pointwise [k0_pay6, k0_pay4]

/-- The third strip's symmetric part, read at an entry. -/
theorem pay9_apply (a : Vec Ideal S1x512x2048 .f32) (b : Vec Ideal S1x2048x512 .f32) (r : Fin 512) (j : Fin 2048) :
    k0_pay9 (k0_pay7 a) b (ix2 r j) = a (ix3 0 r j) + b (ix3 0 j r) := by
  pointwise [k0_pay9, k0_pay8, k0_pay7]

/-- The fourth strip's symmetric part, read at an entry. -/
theorem pay11_apply (a : Vec Ideal S1x512x2048 .f32) (b : Vec Ideal S1x2048x512 .f32) (r : Fin 512) (j : Fin 2048) :
    k0_pay11 a b (ix2 r j) = a (ix3 0 r j) + b (ix3 0 j r) := by
  pointwise [k0_pay11, k0_pay10]

/-- The row of step sizes, read at an entry. -/
theorem stepRow_apply (A : Vec Ideal S1x2048x2048 .f32) (j : Fin 2048) :
    stepRow A (ix2 0 j) = size (symOf A) j := by
  unfold size
  pointwise [stepRow, k0_pay12, k0_pay5, k0_pay2, k0_pay4, k0_pay7, k0_pay8, k0_pay10, a0, a1, a2, a3, b0, b1, b2, b3]
  rw [named_root, sum_quarters]
  refine congrArg (fun s => Ideal.div 1 (1 + Ideal.div s rootEps)) ?_
  refine congrArg₂ (· + ·) (congrArg₂ (· + ·) (congrArg₂ (· + ·) ?_ ?_) ?_) ?_ <;>
    exact Finset.sum_congr rfl fun k _ => add_comm _ _

/-- The upper end of the bisection is the row's peak. -/
theorem pay18_apply (v : FVec Ideal S1x2048 .f32) : k0_pay18 v = peak (rowOf v) := by
  unfold peak
  pointwise [k0_pay18]
  rw [bot_bits]
  show Finset.univ.sup (fun x : Fin 1 × Fin 2048 => v (ix2 0 x.2)) = _
  exact le_antisymm (Finset.sup_le fun x _ => Finset.le_sup (f := rowOf v) (Finset.mem_univ x.2))
    (Finset.sup_le fun k _ => Finset.le_sup (f := fun x : Fin 1 × Fin 2048 => v (ix2 0 x.2)) (Finset.mem_univ (0, k)))

/-- The lower end of the bisection is the row's peak less one. -/
theorem pay19_apply (v : FVec Ideal S1x2048 .f32) : k0_pay19 v = peak (rowOf v) - 1 := by
  rw [← pay18_apply]
  show k0_pay18 v - Ideal.ofBits .f32 0x3F800000#32 = _
  rw [Ideal.ofBits_one_f32]

/-- One bisection of the kernel is one bisection of the row. -/
theorem pay21_apply (v : FVec Ideal S1x2048 .f32) (p : EReal × EReal) :
    ((k0_pay21 (F := Ideal) v p.1 p.2, k0_pay22 (F := Ideal) v p.1 p.2) : EReal × EReal) = bisect (rowOf v) p := by
  unfold bisect over
  pointwise [k0_pay21, k0_pay20, k0_pay22]
  rw [half_bits, Fin.sum_univ_one]
  split_ifs <;> rfl

/-- The Newton step as the kernel computes it. -/
def newtonK (v : FVec Ideal S1x2048 .f32) (t : Ideal .f32) : Ideal .f32 :=
  Scalar.divf
    (Scalar.subf (extractAt ![0, 0, 0] (shapeCast S1x1x1 (multiReduction .add [1, 2] S1 (shapeCast S1x1x2048
      (select (cmpf .ogt v (broadcast S1x2048 t)) v (broadcast S1x2048 (Scalar.ofBits .f32 0x00000000#32))) shapeCasts_S1x2048_S1x1x2048)
      0x00000000#32 reduces_S1x1x2048_S1 (.inl rfl) rfl) shapeCasts_S1_S1x1x1) inpos_S1x1x1_p0_0_0) (Scalar.ofBits .f32 0x3F800000#32))
    (extractAt ![0, 0, 0] (shapeCast S1x1x1 (multiReduction .add [1, 2] S1 (shapeCast S1x1x2048
      (sitofp .f32 (extui 32 (cmpf .ogt v (broadcast S1x2048 t)) natLt_1_32) : FVec Ideal S1x2048 .f32) shapeCasts_S1x2048_S1x1x2048)
      0x00000000#32 reduces_S1x1x2048_S1 (.inl rfl) rfl) shapeCasts_S1_S1x1x1) inpos_S1x1x1_p0_0_0)

/-- One Newton step of the kernel is one Newton step of the row. -/
theorem newtonK_apply (v : FVec Ideal S1x2048 .f32) (t : EReal) : newtonK v t = refine (rowOf v) t := by
  unfold refine
  pointwise [newtonK]
  rw [Fin.sum_univ_one, Fin.sum_univ_one]
  refine congrArg (Ideal.div _) (Finset.sum_congr rfl fun k _ => ?_)
  show (((BitVec.setWidth 32 (BitVec.ofBool (decide (t < v (ix2 0 k))))).toInt : ℝ) : EReal) = _
  split_ifs with h <;> simp [h]

/-- The body's last expression, read at an entry. -/
theorem bodyOut_read (v : FVec Ideal S1x2048 .f32) (t : EReal) (j : Fin 2048) :
    k0_pay1 (F := Ideal) v (k0_pay23 v t) (k0_pay24 v t) (ix3 0 0 j) = max (v (ix2 0 j) - newtonK v (newtonK v (newtonK v t))) 0 := by
  rw [show k0_pay24 v t = extui 32 (k0_pay23 v t) natLt_1_32 from rfl,
    show k0_pay23 v t = cmpf .ogt v (broadcast S1x2048 (newtonK v (newtonK v t))) from rfl]
  generalize newtonK v (newtonK v t) = u
  pointwise [k0_pay1, newtonK]

/-- A stored run of 512 rows, placed in the matrix. -/
theorem rows_emb (o : ℕ) (ho : o + 512 ≤ 2048) (h : ∀ a, (![o, 0] : Fin S2048x2048.rank → ℕ) a + S512x2048.size a ≤ S2048x2048.size a)
    (r : Fin 512) (k : Fin 2048) :
    (Rect.unit (s := S2048x2048) ![o, 0] S512x2048.size h).emb (ix2 r k : S512x2048.Idx) = (ix2 ⟨o + r, by omega⟩ k : S2048x2048.Idx) := by
  funext a
  apply Fin.ext
  fin_cases a
  · show o + 1 * r.val = o + r.val
    omega
  · show 0 + 1 * k.val = k.val
    omega

/-- The matrix under the last stored run is that run; -/
theorem canon_hit (o : ℕ) (ho : o + 512 ≤ 2048) (h : ∀ a, (![o, 0] : Fin S2048x2048.rank → ℕ) a + S512x2048.size a ≤ S2048x2048.size a)
    (p : Vec Ideal S512x2048 .bf16) (L : List (View.Piece (Elt Ideal) S2048x2048 .bf16)) (r : Fin 512) (k : Fin 2048) :
    View.canon (⟨Rect.unit (s := S2048x2048) ![o, 0] S512x2048.size h, p⟩ :: L) (ix2 ⟨o + r, by omega⟩ k) = p (ix2 r k) := by
  rw [← rows_emb o ho h]
  exact View.canon_cons_emb _ _ _ _

/-- above it, what was stored before. -/
theorem canon_miss (o : ℕ) (h : ∀ a, (![o, 0] : Fin S2048x2048.rank → ℕ) a + S512x2048.size a ≤ S2048x2048.size a)
    (p : Vec Ideal S512x2048 .bf16) (L : List (View.Piece (Elt Ideal) S2048x2048 .bf16)) (j k : Fin 2048) (hj : j.val < o) :
    View.canon (⟨Rect.unit (s := S2048x2048) ![o, 0] S512x2048.size h, p⟩ :: L) (ix2 j k) = View.canon L (ix2 j k) := by
  refine View.canon_cons_of_not_mem _ _ fun hm => ?_
  obtain ⟨i, _, hi⟩ := (LoadRect.mem_set _).mp hm 0
  have h0 : j.val = o + 1 * i := hi
  omega

/-- An index in a run, by its place in the run. -/
theorem in_run {o : ℕ} {j : Fin 2048} (h : o ≤ j.val) (h' : j.val < o + 512) : ∃ r : Fin 512, ∃ hr : o + r.val < 2048, j = ⟨o + r, hr⟩ :=
  ⟨⟨j.val - o, by omega⟩, by simp only; omega, Fin.ext (by simp only; omega)⟩

/-- The stored matrix is the symmetrized one. -/
theorem symMat_apply (A : Vec Ideal S1x2048x2048 .f32) (j k : Fin 2048) : symMat A (ix2 j k) = symOf A j k := by
  unfold symMat symPieces
  have hj := j.isLt
  by_cases h3 : 1536 ≤ j.val
  · obtain ⟨r, hr, rfl⟩ := in_run h3 (by omega)
    rw [canon_hit 1536 (by omega), pay11_apply]
    pointwise [a3, b3]
  rw [canon_miss 1536 _ _ _ j k (by omega)]
  by_cases h2 : 1024 ≤ j.val
  · obtain ⟨r, hr, rfl⟩ := in_run h2 (by omega)
    rw [canon_hit 1024 (by omega), pay9_apply]
    pointwise [a2, b2]
  rw [canon_miss 1024 _ _ _ j k (by omega)]
  by_cases h1 : 512 ≤ j.val
  · obtain ⟨r, hr, rfl⟩ := in_run h1 (by omega)
    rw [canon_hit 512 (by omega), pay6_apply]
    pointwise [a1, b1]
  rw [canon_miss 512 _ _ _ j k (by omega)]
  obtain ⟨r, hr, rfl⟩ := in_run (Nat.zero_le j.val) (by omega)
  rw [canon_hit 0 (by omega), pay3_apply]
  pointwise [a0, b0]

/-- One trip of the inner loop adds one run of 512 rows' terms. -/
theorem penUpto_succ (S : Vec Ideal S2048x2048 .bf16) (y : FVec Ideal S1x2048 .f32) (k : ℕ) (hk : k < 4) (j : Fin 2048) :
    penUpto S y (k + 1) (ix2 0 j) = penUpto S y k (ix2 0 j)
      + ∑ r : Fin 512, S (ix2 ⟨512 * k + r, by omega⟩ j) * smooth (y (ix2 0 j) - y (ix2 0 ⟨512 * k + r, by omega⟩)) := by
  have h : k < k0_t2_loop.trips := hk
  rw [penUpto, dif_pos h, pay16_apply]
  refine congrArg _ (Finset.sum_congr rfl fun r _ => ?_)
  have e1 : (Rect.unit (s := S2048x2048) (k0_off2 ⟨k, h⟩) S512x2048.size (k0_off2_inb ⟨k, h⟩)).emb (ix2 r j : S512x2048.Idx)
      = (ix2 ⟨512 * k + r, by omega⟩ j : S2048x2048.Idx) := by
    funext a
    apply Fin.ext
    fin_cases a
    · show k0_off2 ⟨k, h⟩ 0 + 1 * r.val = 512 * k + r.val
      rw [k0_off2_eq, Nat.one_mul]
      rfl
    · show k0_off2 ⟨k, h⟩ 1 + 1 * j.val = j.val
      rw [k0_off2_eq, Nat.one_mul]
      exact Nat.zero_add _
  have e2 : (Rect.unit (s := S2048x1) (k0_off1 ⟨k, h⟩) S512x1.size (k0_off1_inb ⟨k, h⟩)).emb (ix2 r 0 : S512x1.Idx)
      = (ix2 ⟨512 * k + r, by omega⟩ 0 : S2048x1.Idx) := by
    funext a
    apply Fin.ext
    fin_cases a
    · show k0_off1 ⟨k, h⟩ 0 + 1 * r.val = 512 * k + r.val
      rw [k0_off1_eq, Nat.one_mul]
      rfl
    · show k0_off1 ⟨k, h⟩ 1 + 1 * 0 = 0
      rw [k0_off1_eq]
      rfl
  exact congrArg₂ (fun s t => s * smooth (y (ix2 0 j) - t)) (congrArg S e1) ((congrArg (k0_pay14 y) e2).trans (pay14_apply y _))

/-- The inner loop sums the penalty's gradient. -/
theorem penUpto_apply (S : Vec Ideal S2048x2048 .bf16) (y : FVec Ideal S1x2048 .f32) (j : Fin 2048) :
    penUpto S y k0_t2_loop.trips (ix2 0 j) = ∑ k : Fin 2048, S (ix2 k j) * smooth (y (ix2 0 j) - y (ix2 0 k)) := by
  rw [show k0_t2_loop.trips = 3 + 1 from rfl, penUpto_succ _ _ 3 (by omega), penUpto_succ _ _ 2 (by omega), penUpto_succ _ _ 1 (by omega),
    penUpto_succ _ _ 0 (by omega), sum_quarters, penUpto, pay15_apply, zero_add]
  simp only [Nat.mul_zero, Nat.zero_add, Nat.mul_one, Nat.reduceMul]

/-- The outer loop is the descent. -/
theorem zUpto_apply (A : Vec Ideal S1x2048x2048 .f32) (x : FVec Ideal S1x2048 .f32) (n : ℕ) (j : Fin 2048) :
    zUpto (symMat A) (stepRow A) x n (ix2 0 j) = settled (symOf A) (rowOf x) n j := by
  induction n generalizing j with
  | zero => rfl
  | succ n ih =>
    rw [zUpto, settled_succ, pay17_apply, penUpto_apply, stepRow_apply]
    unfold descend pen
    simp only [ih]
    have e : ∀ z : Fin 2048 → EReal, ∑ k : Fin 2048, symMat A (ix2 k j) * smooth (z j - z k) = ∑ k, symOf A j k * smooth (z j - z k) :=
      fun z => Finset.sum_congr rfl fun k _ => by rw [symMat_apply]; exact congrArg (· * _) (add_comm _ _)
    rw [e]

/-- A counted loop of one repeated step is the step iterated. -/
theorem fold_const {α : Type} (n : ℕ) (f g : α → α) (h : ∀ a, f a = g a) {x y : α} (hxy : x = y) :
    Scf.fold (fun (_ : Fin n) a => f a) x = g^[n] y := by
  rw [Scf.fold_eq, show f = g from funext h, List.foldl_const, List.length_finRange, hxy]

/-- The bisection runs eighteen times. -/
theorem trips3 : k0_t3_loop.trips = 18 := by decide +kernel

/-- The bisection loop is eighteen halvings. -/
theorem bisected_eq (v : FVec Ideal S1x2048 .f32) :
    (bisected v : EReal × EReal) = (bisect (rowOf v))^[18] (peak (rowOf v) - 1, peak (rowOf v)) := by
  have e0 : ((k0_pay19 (F := Ideal) v, k0_pay18 (F := Ideal) v) : EReal × EReal) = (peak (rowOf v) - 1, peak (rowOf v)) :=
    Prod.ext (pay19_apply v) (pay18_apply v)
  have h := fold_const k0_t3_loop.trips (fun p : EReal × EReal => ((k0_pay21 (F := Ideal) v p.1 p.2, k0_pay22 (F := Ideal) v p.1 p.2) : EReal × EReal))
    (bisect (rowOf v)) (pay21_apply v) e0
  generalize peak (rowOf v) - 1 = lo at h ⊢
  generalize peak (rowOf v) = hi at h ⊢
  rw [trips3] at h
  exact h

/-- The output block. -/
theorem bodyOut_apply (x : Vec Ideal S1x1x2048 .f32) (A : Vec Ideal S1x2048x2048 .f32) (j : Fin 2048) :
    bodyOut x A (ix3 0 0 j) = max (settled (symOf A) (fun k => x (ix3 0 0 k)) 10 j
      - found (settled (symOf A) (fun k => x (ix3 0 0 k)) 10)) 0 := by
  have hz : rowOf (fused x A) = settled (symOf A) (fun k => x (ix3 0 0 k)) 10 := by
    funext k
    show fused x A (ix2 0 k) = _
    unfold fused
    rw [zUpto_apply, show rowOf (k0_pay13 x) = fun k => x (ix3 0 0 k) from funext (pay13_apply x)]
    rfl
  unfold bodyOut
  rw [bodyOut_read, newtonK_apply, newtonK_apply, newtonK_apply, bisected_eq, show fused x A (ix2 0 j) = rowOf (fused x A) j from rfl, hz]
  rfl

end Cert.Proof.KernelIdeal
end
-- ==== Proof.KernelResult.lean ====
/-
  The kernel program's result array, as a function of its argument arrays: entry `(b, j)` by the row functions of `Row` on
  batch row `b`.
-/
module

public import proofs.«01_k».proof.Proof.KernelValue

@[expose] public section

set_option maxRecDepth 16384

noncomputable section

namespace Cert.Proof.KernelIdeal

open Cert.KernelIdeal Cert.KernelIdeal.Gen Cert.Proof.Row
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The kernel's output row, from the settled row. -/
def kernelRow (z : Fin 2048 → EReal) (j : Fin 2048) : EReal := max (z j - found z) 0

/-- Row `b` of the settled rows. -/
def settledOf (X : FVec Ideal S8x2048 .f32) (A : FVec Ideal S8x2048x2048 .f32) (b : Fin 8) : Fin 2048 → EReal :=
  settled (fun j k => A (ix3 b j k) + A (ix3 b k j)) (fun k => X (ix2 b k)) 10

/-- The kernel's output array, before its last reshape. -/
def out3 (X : FVec Ideal S8x2048 .f32) (A : FVec Ideal S8x2048x2048 .f32) : FVec Ideal S8x1x2048 .f32 :=
  fun i => kernelRow (settledOf X A (i 0)) (i 2)

/-- Each window's block index at a grid point: the point on the batch axis, zero on the others. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The matrix window's block at step `t` is matrix `t`, whole. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The result window's block at step `t` is row `t`, whole. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The batch row of a grid point. -/
def rowAt (t : Fin cfg0.N) : Fin 8 := ⟨t.val, lt_of_lt_of_eq t.isLt N_0⟩

/-- Where an entry of the row window's block lies in its array. -/
theorem emb0 (t : Fin cfg0.N) (j : Fin 2048) : ((cfg0.win 0).blk t).view.emb (ix3 0 0 j : S1x1x2048.Idx) = (ix3 (rowAt t) 0 j : S8x1x2048.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 2048 + 1 * j.val = j.val; omega

/-- Where an entry of the matrix window's block lies in its array. -/
theorem emb1 (t : Fin cfg0.N) (j k : Fin 2048) : ((cfg0.win 1).blk t).view.emb (ix3 0 j k : S1x2048x2048.Idx) = (ix3 (rowAt t) j k : S8x2048x2048.Idx) := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 2048 + 1 * j.val = j.val; omega
  | ⟨2, _⟩ => show win0_1.index t (2 : Fin 3) * 2048 + 1 * k.val = k.val; omega

/-- Where an entry of the result window's block lies in its array. -/
theorem emb2 (t : Fin cfg0.N) (i : S1x1x2048.Idx) : ((cfg0.win 2).blk t).view.emb i = (ix3 (rowAt t) 0 (i 2) : S8x1x2048.Idx) := by
  obtain ⟨e0, e1, e2⟩ := idx2 t
  have h0 : (i 0).val < 1 := (i 0).isLt
  have h1 : (i 1).val < 1 := (i 1).isLt
  funext a; apply Fin.ext
  match a with
  | ⟨0, _⟩ => show win0_2.index t (0 : Fin 3) * 1 + 1 * (i 0).val = t.val; omega
  | ⟨1, _⟩ => show win0_2.index t (1 : Fin 3) * 1 + 1 * (i 1).val = 0; omega
  | ⟨2, _⟩ => show win0_2.index t (2 : Fin 3) * 2048 + 1 * (i 2).val = (i 2).val; omega

/-- The batch array as the region finds it: the argument itself, with a unit axis. -/
theorem V_main_v2 (c : Dev nD) (b : Fin 8) (j : Fin 2048) :
    (V m c main_v2 : FVec Ideal S8x1x2048 .f32) (ix3 b 0 j) = (m ((c : Thread nD τ).loc main_arg0) : FVec Ideal S8x2048 .f32) (ix2 b j) := by
  have e : V m c main_v2 = (shapeCast S8x1x2048 (Host.divf (m ((c : Thread nD τ).loc main_arg0) : FVec Ideal S8x2048 .f32)
      (broadcastInDim S8x2048 ![] bcast_S_S8x2048 (constant S_ .f32 0x3F800000#32))) shapeCasts_S8x2048_S8x1x2048 : FVec Ideal S8x1x2048 .f32) := by
    show StableHlo.after hostOps0 _ (Proc.devRef .tc main_v2) = _
    after_results
    rfl
  rw [e]
  pointwise
  exact div_one _

/-- The row window's block at step `t` reads row `t` of the first input. -/
theorem iblk0 (c : Dev nD) (t : Fin cfg0.N) (j : Fin 2048) :
    (iblk m c 0 t : FVec Ideal S1x1x2048 .f32) (ix3 0 0 j) = (m ((c : Thread nD τ).loc main_arg0) : FVec Ideal S8x2048 .f32) (ix2 (rowAt t) j) := by
  rw [← V_main_v2 m c]
  show V m c main_v2 (((cfg0.win 0).blk t).view.emb (ix3 0 0 j : S1x1x2048.Idx)) = _
  rw [emb0]

/-- The matrix window's block at step `t` reads matrix `t` of the second input. -/
theorem iblk1 (c : Dev nD) (t : Fin cfg0.N) (j k : Fin 2048) :
    (iblk m c 1 t : FVec Ideal S1x2048x2048 .f32) (ix3 0 j k) = (m ((c : Thread nD τ).loc main_arg1) : FVec Ideal S8x2048x2048 .f32) (ix3 (rowAt t) j k) := by
  rw [← V_main_arg1 m c]
  show V m c main_arg1 (((cfg0.win 1).blk t).view.emb (ix3 0 j k : S1x2048x2048.Idx)) = _
  rw [emb1]

/-- An index of a block. -/
theorem block_idx (i : S1x1x2048.Idx) : ∃ j : Fin 2048, i = ix3 0 0 j :=
  ⟨i 2, by
    funext a
    match a with
    | ⟨0, _⟩ => exact Subsingleton.elim (α := Fin 1) _ _
    | ⟨1, _⟩ => exact Subsingleton.elim (α := Fin 1) _ _
    | ⟨2, _⟩ => rfl⟩

/-- The block a step writes, entry by entry, as a row function of the inputs. -/
theorem out_block (c : Dev nD) (t : Fin cfg0.N) (i : S1x1x2048.Idx) :
    bodyOut (iblk m c 0 t) (iblk m c 1 t) i
      = out3 (m ((c : Thread nD τ).loc main_arg0)) (m ((c : Thread nD τ).loc main_arg1)) (ix3 (rowAt t) 0 (i 2)) := by
  obtain ⟨j, rfl⟩ := block_idx i
  rw [bodyOut_apply]
  unfold out3 kernelRow settledOf symOf
  simp only [iblk0, iblk1]
  rfl

/-- What a grid point writes back is its block of the output array. -/
theorem flushed2 (c : Dev nD) (t : Fin cfg0.N) :
    (dats m 0 c).flushed 2 t = ((cfg0.win 2).blk t).view.read (Elt Ideal)
      (out3 (m ((c : Thread nD τ).loc main_arg0)) (m ((c : Thread nD τ).loc main_arg1))) := by
  show (cfg0.win 2).cut (grid0.coords t) ((dats m 0 c).after 2 t) = _
  rw [after0_2]
  funext i
  show bodyOut (iblk m c 0 t) (iblk m c 1 t) i = out3 _ _ (((cfg0.win 2).blk t).view.emb i)
  rw [emb2]
  exact out_block m c t i

/-- Every entry of the output array is in some point's block. -/
theorem covered2 (i : S8x1x2048.Idx) : ∃ t : Fin cfg0.N, (cfg0.win 2).flush t = true ∧ i ∈ ((cfg0.win 2).blk t).view.set := by
  obtain ⟨t, ht⟩ : ∃ t : Fin cfg0.N, t.val = (i 0).val :=
    ⟨⟨(i 0).val, lt_of_lt_of_eq (b := 8) (i 0).isLt N_0.symm⟩, rfl⟩
  refine ⟨t, flush0_2 _, ?_⟩
  have h := ((cfg0.win 2).blk t).view.emb_mem_set (ix3 0 0 (i 2) : S1x1x2048.Idx)
  rw [emb2] at h
  have hi : i = (ix3 (rowAt t) 0 (i 2) : S8x1x2048.Idx) := by
    funext a
    match a with
    | ⟨0, _⟩ => exact Fin.ext ht.symm
    | ⟨1, _⟩ => exact Subsingleton.elim (α := Fin 1) _ _
    | ⟨2, _⟩ => rfl
  rw [hi]
  exact h

/-- The result array after the last step. -/
theorem final2 (c : Dev nD) : (dats m 0 c).arrAt 2 cfg0.N
    = out3 (m ((c : Thread nD τ).loc main_arg0)) (m ((c : Thread nD τ).loc main_arg1)) :=
  (dats m 0 c).arrAt_eq_of_cover 2 _ (fun t _ => flushed2 m c t) covered2

/-- The kernel's result array. -/
def out2 (X : FVec Ideal S8x2048 .f32) (A : FVec Ideal S8x2048x2048 .f32) : FVec Ideal S8x2048 .f32 :=
  fun i => kernelRow (settledOf X A (i 0)) (i 1)

/-- The result array after the last reshape. -/
theorem result (c : Dev nD) : Pipeline.afterTail₀ cfgs (dats m) 0 (V0 m) [hostOps1] c main_v4
    = out2 (m ((c : Thread nD τ).loc main_arg0)) (m ((c : Thread nD τ).loc main_arg1)) := by
  unfold Pipeline.afterTail₀
  show StableHlo.after hostOps1 _ (Proc.devRef .tc main_v4) = _
  after_results
  funext i
  show shapeCast S8x2048 (Pipeline.withArrays spec0 c (V0 m c) (fun w => (dats m 0 c).arrAt w cfg0.N)
    (Proc.devRef .tc (Pipeline.arrRef spec0 2)) : FVec Ideal S8x1x2048 .f32) shapeCasts_S8x1x2048_S8x2048 i = _
  rw [Pipeline.withArrays_arr _ launch0.win.arr_inj, final2]
  unfold out2 out3
  idx_vars i
  pointwise

/-- The kernel program's run: the result array at its function of the arguments, which end unchanged. -/
theorem run : θ_run defs (onTc (τ := τ) (main (F := Ideal))) ⟨m, fun _ => 0, ρ⟩ fun r => ∀ c : Dev nD,
      r.2.mem ((c.tc : Thread nD τ).loc main_v4)
        = out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v4 (Pipeline.mem_restRefs_of main_v4 (by decide) (by decide))).trans (result m c), h.2 c⟩)
    (θ_run_and (run_main m ρ) (unchanged m ρ))

end Cert.Proof.KernelIdeal
end
-- ==== Proof.ReferenceDescent.lean ====
/-
  The reference's loop, read row by row: the state after `n` trips holds, in batch row `b`, the row `Row.settled` reaches
  in `n` steps of descent (`refIter_y`); with it the frame (`quiet`) and the run with the result at its place in the tenth state.
-/
module

public import proofs.«01_k».proof.Proof.Row
public import proofs.«01_k».proof.Proof.Gen.ReferenceIdeal.StepRun
public import Idealize.ShloMosaic.Lib.Quiescent

@[expose] public section

set_option maxRecDepth 8192

noncomputable section

namespace Cert.Proof.ReferenceIdeal

open Idealize.ShloMosaic Idealize.ShloMosaic.TcCoe Idealize.SL.Sem Idealize.ShloMosaic.StableHlo
open Cert.ReferenceIdeal Cert.ReferenceIdeal.Gen Cert.ReferenceIdeal.Step
open Cert.Proof.Row

/-- The two arguments, as arrays of extended reals. -/
abbrev XIn : Type := (⟨S8x2048, .f32⟩ : BufTy).Contents (Elt Ideal)
abbrev AIn : Type := (⟨S8x2048x2048, .f32⟩ : BufTy).Contents (Elt Ideal)

/-- The state after `n` trips. -/
def refIter (X : XIn) (A : AIn) : ℕ → State Ideal
  | 0 => init X A
  | n + 1 => step n (refIter X A n)

/-- The symmetrised matrix of batch row `b`. -/
def symOf (A : AIn) (b : Fin 8) (j k : Fin 2048) : EReal := A (ix3 b j k) + A (ix3 b k j)

/-- The row of `x`. -/
def rowOf (X : XIn) (b : Fin 8) (k : Fin 2048) : EReal := X (ix2 b k)

/-- The descent carries the symmetric part unchanged. -/
theorem refIter_sym (X : XIn) (A : AIn) : ∀ n, (refIter X A n).main_v15_0 = A_main_v3 X A
  | 0 => rfl
  | n + 1 => refIter_sym X A n

/-- The descent carries the input row unchanged. -/
theorem refIter_x (X : XIn) (A : AIn) : ∀ n, (refIter X A n).main_v15_1 = A_main_v1 X A
  | 0 => rfl
  | n + 1 => refIter_x X A n

/-- The descent carries the step sizes unchanged. -/
theorem refIter_size (X : XIn) (A : AIn) : ∀ n, (refIter X A n).main_v15_2 = A_main_v14 X A
  | 0 => rfl
  | n + 1 => refIter_size X A n

/-- The quotient by one is the argument. -/
theorem start_apply (X : XIn) (A : AIn) (b : Fin 8) (j : Fin 2048) : A_main_v1 X A (ix2 b j) = rowOf X b j := by
  unfold rowOf
  pointwise [A_main_v1, K_main_v0, K_main_cst]
  exact div_one _

/-- The matrix and its transpose, added. -/
theorem sym_apply (X : XIn) (A : AIn) (b : Fin 8) (j k : Fin 2048) : A_main_v3 X A (ix3 b j k) = symOf A b j k := by
  unfold symOf
  pointwise [A_main_v3, A_main_v2]

/-- The step size. -/
theorem size_apply (X : XIn) (A : AIn) (b : Fin 8) (j : Fin 2048) : A_main_v14 X A (ix2 b j) = size (symOf A b) j := by
  unfold size symOf
  pointwise [A_main_v14, A_main_v12, A_main_v10, A_main_v6, A_main_v4, A_main_v3, A_main_v2, K_main_v13, K_main_cst_4,
    K_main_v11, K_main_cst_3, K_main_v9, K_main_v8, K_main_v7, K_main_cst_2, K_main_v5, K_main_cst_1, K_main_cst_0]
  rw [show (id (Host.sqrt (constant S_ FTy.f32 1008981770#32)) : FVec Ideal S_ .f32) ix0 = rootEps from root_bits]

/-- One trip is one step of descent in every row. -/
theorem trip_apply (s : State Ideal) (n : ℕ) (sym : Fin 8 → Fin 2048 → Fin 2048 → EReal) (x z : Fin 8 → Fin 2048 → EReal)
    (h0 : ∀ b j k, s.main_v15_0 (ix3 b j k) = sym b j k) (h1 : ∀ b j, s.main_v15_1 (ix2 b j) = x b j)
    (h2 : ∀ b j, s.main_v15_2 (ix2 b j) = size (sym b) j) (h4 : ∀ b j, s.main_v15_4 (ix2 b j) = z b j)
    (b : Fin 8) (j : Fin 2048) : b20 n s (ix2 b j) = descend (sym b) (x b) (z b) j := by
  unfold descend pen smooth
  pointwise [b20, b19, b18, b17, b16, b15, b14, b13, b12, b11, b10, b9, b8, b7, b6, b5, b4, b3, b2, b1, b0]
  simp only [h0, h1, h2, h4, eps_bits]

/-- After `n` trips each batch row is settled `n` steps. -/
theorem refIter_y (X : XIn) (A : AIn) (b : Fin 8) : ∀ (n : ℕ) (j : Fin 2048),
    (refIter X A n).main_v15_4 (ix2 b j) = settled (symOf A b) (rowOf X b) n j := by
  intro n
  induction n generalizing b with
  | zero => intro j; exact start_apply X A b j
  | succ n ih =>
    intro j
    rw [settled_succ]
    exact trip_apply (refIter X A n) n (fun b => symOf A b) (fun b => rowOf X b)
      (fun b => settled (symOf A b) (rowOf X b) n)
      (fun b j k => by rw [refIter_sym]; exact sym_apply X A b j k)
      (fun b j => by rw [refIter_x]; exact start_apply X A b j)
      (fun b j => by rw [refIter_size]; exact size_apply X A b j)
      (fun b j => ih b j) b j

/-- The reference runs, and its arguments end unchanged. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.ReferenceIdeal.Value.run (F := Ideal) m ρ)

/-- The reference's result, off the tenth state. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = R_main_v40
        (refIter (m ((c.tc : Thread nD τ).loc main_arg0)) (m ((c.tc : Thread nD τ).loc main_arg1)) 10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.ReferenceIdeal.StepRun.run_iter (F := Ideal) m ρ
    (fun c => refIter (m ((c.tc : Thread nD τ).loc main_arg0)) (m ((c.tc : Thread nD τ).loc main_arg1)))
    (fun _ => rfl) (fun _ _ => rfl)

end Cert.Proof.ReferenceIdeal
end
-- ==== Proof.ReferenceThreshold.lean ====
/-
  The reference's threshold, read row by row: the sorted row (`sorted`), its running sums (`prefix_apply`), and the result
  (`result_apply`): the row less the threshold `Row.ranked` finds on the sorted row, no less than zero.
-/
module

public import proofs.«01_k».proof.Proof.ReferenceDescent
public import Idealize.ShloMosaic.Lib.SortFacts
public import Idealize.ShloMosaic.Lib.Routing.Ops

@[expose] public section

set_option maxRecDepth 8192

noncomputable section

namespace Cert.Proof.ReferenceIdeal

open Idealize.ShloMosaic Idealize.ShloMosaic.TcCoe Idealize.SL.Sem Idealize.ShloMosaic.StableHlo
open Cert.ReferenceIdeal Cert.ReferenceIdeal.Gen Cert.ReferenceIdeal.Step
open Cert.Proof.Row

/-- The rows in descending order, as the program sorts them: negated, sorted, negated. -/
def sorted (y : FVec Ideal S8x2048 .f32) : FVec Ideal S8x2048 .f32 :=
  Host.negf (Host.sort S8x2048 1 comparator_f32_d1 (Host.negf y))

/-- Their running sums. -/
def prefixes (s : FVec Ideal S8x2048 .f32) : FVec Ideal S8x2048 .f32 :=
  Host.reduceWindowAdd ![1, 2048] ![1, 1] ![0, 2047] ![0, 0] s (broadcastInDim S_ ![] bcast_S_S_ (constant S_ .f32 0x00000000#32)) reduceWindows_S8x2048_S8x2048_w1s1p0_0_w2048s1p2047_0 h_S_

/-- The result, of the settled rows, their sorted rows and the running sums. -/
def outOf (y s p : FVec Ideal S8x2048 .f32) : FVec Ideal S8x2048 .f32 :=
  maximumf (broadcastInDim S8x2048 ![] bcast_S_S8x2048 (id (constant S_ .f32 0x00000000#32))) (subf y (broadcastInDim S8x2048 ![0, 1] bcast_S8x1_S8x2048_0_1 (Host.divf (subf (broadcastInDim S8x1 ![0] bcast_S8_S8x1_0 (Host.reduceAdd (mulf s (uitofp .f32 (cmpf .ogt (addf (broadcastInDim S8x2048 ![] bcast_S_S8x2048 (constant S_ .f32 0x3F800000#32)) (mulf (broadcastInDim S8x2048 ![0, 1] bcast_S1x2048_S8x2048_0_1 (shapeCast _ (addf (broadcastInDim S2048 ![] bcast_S_S2048 (constant S_ .f32 0x3F800000#32)) (sitofp .f32 (iotaInDim S2048 32 0))) shapeCasts_S2048_S1x2048)) s)) p))) (constant S_ .f32 0x00000000#32) reducesTo_S8x2048_S8_d1 h_S_)) (broadcastInDim S8x1 ![] bcast_S_S8x1 (constant S_ .f32 0x3F800000#32))) (broadcastInDim S8x1 ![0] bcast_S8_S8x1_0 (Host.reduceAdd (uitofp .f32 (cmpf .ogt (addf (broadcastInDim S8x2048 ![] bcast_S_S8x2048 (constant S_ .f32 0x3F800000#32)) (mulf (broadcastInDim S8x2048 ![0, 1] bcast_S1x2048_S8x2048_0_1 (shapeCast _ (addf (broadcastInDim S2048 ![] bcast_S_S2048 (constant S_ .f32 0x3F800000#32)) (sitofp .f32 (iotaInDim S2048 32 0))) shapeCasts_S2048_S1x2048)) s)) p)) (constant S_ .f32 0x00000000#32) reducesTo_S8x2048_S8_d1 h_S_)))))

/-- The reference's result, read from its state. -/
theorem out_eq (s : State Ideal) :
    R_main_v40 s = outOf s.main_v15_4 (sorted s.main_v15_4) (prefixes (sorted s.main_v15_4)) := rfl

/-- Adding up along a list from `v`. -/
theorem foldl_sum (n : ℕ) (g : Fin n → EReal) (v : EReal) :
    (List.finRange n).foldl (fun a i => a + g i) v = v + ∑ i, g i := by
  have h : ∀ (l : List (Fin n)) (v : EReal), l.foldl (fun a i => a + g i) v = v + (l.map g).sum := by
    intro l
    induction l with
    | nil => intro v; simp
    | cons i l ih => intro v; rw [List.foldl_cons, ih, List.map_cons, List.sum_cons, add_assoc]
  rw [h, ← List.ofFn_eq_map, List.sum_ofFn]

/-- The window of the whole length, padded low by one less, holds the entries up to the rank. -/
theorem window_sum (f : Fin 2048 → EReal) (r : Fin 2048) :
    (∑ n : Fin 2048, if h : 2047 ≤ r.val + n.val then f ⟨r.val + n.val - 2047, by omega⟩ else 0)
      = ∑ q ∈ Finset.univ.filter (· ≤ r), f q := by
  have hr := r.isLt
  rw [← Finset.sum_filter_add_sum_filter_not Finset.univ (fun n : Fin 2048 => 2047 ≤ r.val + n.val)]
  rw [Finset.sum_eq_zero (s := Finset.univ.filter fun n : Fin 2048 => ¬ 2047 ≤ r.val + n.val)
    (fun n hn => dif_neg (Finset.mem_filter.mp hn).2), add_zero]
  refine Finset.sum_bij' (fun n _ => (⟨r.val + n.val - 2047, by omega⟩ : Fin 2048))
    (fun q hq => (⟨q.val + 2047 - r.val, by have := (Finset.mem_filter.mp hq).2; rw [Fin.le_def] at this; omega⟩ : Fin 2048))
    ?_ ?_ ?_ ?_ ?_
  · intro n hn
    simp only [Finset.mem_filter, Finset.mem_univ, true_and, Fin.le_def] at hn ⊢
    omega
  · intro q hq
    simp only [Finset.mem_filter, Finset.mem_univ, true_and, Fin.le_def] at hq ⊢
    omega
  · intro n hn
    simp only [Finset.mem_filter, Finset.mem_univ, true_and] at hn
    apply Fin.ext
    show r.val + n.val - 2047 + 2047 - r.val = n.val
    omega
  · intro q hq
    simp only [Finset.mem_filter, Finset.mem_univ, true_and, Fin.le_def] at hq
    apply Fin.ext
    show r.val + (q.val + 2047 - r.val) - 2047 = q.val
    omega
  · intro n hn
    exact dif_pos (Finset.mem_filter.mp hn).2

/-- The window sum along the rows of a `[B, M + 1]` array, padded low by `M`. -/
theorem reduceWindow_apply {B M : ℕ} (x : (Routing.shape2 B (M + 1)).Idx → EReal)
    (h : (Routing.shape2 B (M + 1)).ReduceWindows (![1, M + 1] : Fin 2 → Nat) ![1, 1] ![0, M] ![0, 0] (Routing.shape2 B (M + 1)))
    (v : (⟨0, ![]⟩ : Shape).Idx → EReal) (hv : ∀ i, v i = 0) (hu : 0 < (⟨0, ![]⟩ : Shape).numel) (b : Fin B) (r : Fin (M + 1)) :
    Host.reduceWindow (fun a b : EReal => a + b) ![1, M + 1] ![1, 1] ![0, M] ![0, 0] x v h hu (ix2 b r)
      = ∑ n : Fin (M + 1), if h : M ≤ r.val + n.val then x (ix2 b ⟨r.val + n.val - M, by omega⟩) else 0 := by
  have hr := r.isLt
  have e : (Routing.shape2 1 (M + 1)).numel = M + 1 := Routing.numel2 (M + 1)
  unfold Host.reduceWindow
  dsimp only
  rw [hv]
  refine (foldl_sum _ _ _).trans ?_
  rw [zero_add]
  refine Fintype.sum_equiv (finCongr e) _ _ fun n => ?_
  have hw0 : ((Routing.shape2 1 (M + 1)).rowMajor.symm n 0).val = 0 := by rw [Routing.symm2]; rfl
  have hw : ((Routing.shape2 1 (M + 1)).rowMajor.symm n 1).val = n.val := by rw [Routing.symm2]; rfl
  have hn := (n.cast e).isLt
  have hn' : n.val < M + 1 := hn
  show _ = if h : M ≤ r.val + n.val then x (ix2 b ⟨r.val + n.val - M, by omega⟩) else 0
  split
  · next hin =>
    have h1 := hin 1
    change M ≤ r.val * 1 + ((Routing.shape2 1 (M + 1)).rowMajor.symm n 1).val
      ∧ r.val * 1 + ((Routing.shape2 1 (M + 1)).rowMajor.symm n 1).val - M < M + 1 at h1
    rw [hw] at h1
    rw [dif_pos (by omega)]
    refine congrArg x (funext fun a => Fin.ext ?_)
    match a with
    | ⟨0, _⟩ =>
      show b.val * 1 + ((Routing.shape2 1 (M + 1)).rowMajor.symm n 0).val - 0 = b.val
      rw [hw0]
      omega
    | ⟨1, _⟩ =>
      show r.val * 1 + ((Routing.shape2 1 (M + 1)).rowMajor.symm n 1).val - M = r.val + n.val - M
      rw [hw, Nat.mul_one]
  · next hin =>
    rw [dif_neg fun hle => hin fun a => by
      match a with
      | ⟨0, _⟩ =>
        show 0 ≤ b.val * 1 + ((Routing.shape2 1 (M + 1)).rowMajor.symm n 0).val
          ∧ b.val * 1 + ((Routing.shape2 1 (M + 1)).rowMajor.symm n 0).val - 0 < B
        rw [hw0]
        have := b.isLt
        omega
      | ⟨1, _⟩ =>
        show M ≤ r.val * 1 + ((Routing.shape2 1 (M + 1)).rowMajor.symm n 1).val
          ∧ r.val * 1 + ((Routing.shape2 1 (M + 1)).rowMajor.symm n 1).val - M < M + 1
        rw [hw]
        omega]

/-- The same with the row's length named. -/
theorem rowWindow_apply {B M N : ℕ} (hN : M + 1 = N) (x : (Routing.shape2 B N).Idx → EReal)
    (h : (Routing.shape2 B N).ReduceWindows (![1, N] : Fin 2 → Nat) ![1, 1] ![0, M] ![0, 0] (Routing.shape2 B N))
    (v : (⟨0, ![]⟩ : Shape).Idx → EReal) (hv : ∀ i, v i = 0) (hu : 0 < (⟨0, ![]⟩ : Shape).numel) (b : Fin B) (r : Fin N) :
    Host.reduceWindow (fun a b : EReal => a + b) ![1, N] ![1, 1] ![0, M] ![0, 0] x v h hu (ix2 b r)
      = ∑ n : Fin N, if h : M ≤ r.val + n.val then x (ix2 b ⟨r.val + n.val - M, by omega⟩) else 0 := by
  subst hN
  exact reduceWindow_apply x h v hv hu b r

/-- A running sum, entry by entry. -/
theorem prefix_apply (s : FVec Ideal S8x2048 .f32) (b : Fin 8) (r : Fin 2048) :
    prefixes s (ix2 b r) = ∑ q ∈ Finset.univ.filter (· ≤ r), s (ix2 b q) := by
  rw [← window_sum (fun q => s (ix2 b q)) r]
  have h := rowWindow_apply (B := 8) (M := 2047) (N := 2048) rfl s reduceWindows_S8x2048_S8x2048_w1s1p0_0_w2048s1p2047_0
    (fun _ => Ideal.ofBits .f32 0x00000000#32) (fun _ => Ideal.ofBits_zero_f32) (by decide) b r
  have h3 : (broadcastInDim S_ ![] bcast_S_S_ (constant (F := Ideal) S_ .f32 0x00000000#32)) (Shape.Idx.first h_S_) = Ideal.ofBits .f32 0x00000000#32 := rfl
  unfold prefixes Host.reduceWindowAdd
  rw [h3]
  unfold FloatOps.hostReduceWindowAdd
  show Ideal.hostReduceWindowAdd _ _ _ _ _ _ _ _ = _
  unfold Ideal.hostReduceWindowAdd
  exact h

/-- The rank, as a number. -/
theorem rank_cast (r : Fin 2048) : FloatOps.sitofp (F := Ideal) FTy.f32 (BitVec.ofNat 32 r.val) = ((r.val : ℝ) : EReal) := by
  have hr := r.isLt
  show (((BitVec.ofNat 32 r.val).toInt : ℝ) : EReal) = _
  have : (BitVec.ofNat 32 r.val).toInt = (r.val : ℤ) := by
    rw [BitVec.toInt_eq_toNat_of_lt (by rw [BitVec.toNat_ofNat]; omega), BitVec.toNat_ofNat, Nat.mod_eq_of_lt (by omega)]
  rw [this]
  simp

/-- A truth value, as a number. -/
theorem truth_cast (P : Prop) [Decidable P] :
    FloatOps.uitofp (F := Ideal) FTy.f32 (BitVec.ofBool (decide P)) = if P then (1 : EReal) else 0 := by
  show (((BitVec.ofBool (decide P)).toNat : ℝ) : EReal) = _
  split_ifs with h <;> simp [h]

/-- The result at an entry. -/
theorem outOf_apply (y s : FVec Ideal S8x2048 .f32) (b : Fin 8) (j : Fin 2048) :
    outOf y s (prefixes s) (ix2 b j) = max 0 (y (ix2 b j) - ranked fun r => s (ix2 b r)) := by
  unfold ranked kept
  pointwise [outOf]
  simp only [rank_cast, truth_cast, prefix_apply]
  rw [show (id (constant (F := Ideal) S_ FTy.f32 0#32) : FVec Ideal S_ .f32) ix0 = 0 from Ideal.ofBits_zero_f32]

/-- The program's order is the order of the extended reals. -/
theorem before_iff (l r : EReal) : comparator_f32_d1 (F := Ideal) l r = 1#1 ↔ l < r := by
  pointwise [comparator_f32_d1]
  have z : ∀ x : EReal, (if x ≠ x then Ideal.ofBits FTy.f32 2143289344#32 else if x = 0 then 0 else x) = x := by
    intro x
    rw [if_neg (fun h => h rfl)]
    split_ifs with h <;> simp [h]
  rw [z, z]
  show BitVec.ofBool (decide (l < r)) = 1#1 ↔ _
  by_cases h : l < r <;> simp [h]

/-- A sort along the rows, row by row. -/
theorem sort_apply (cmp : EReal → EReal → BitVec 1) (x : FVec Ideal S8x2048 .f32) (b : Fin 8) (r : Fin 2048) :
    Host.sort S8x2048 1 cmp x (ix2 b r)
      = x (ix2 b (sortedFrom (n := 2048) (fun k k' => cmp (x (ix2 b k)) (x (ix2 b k')) == 1#1) r)) := by
  have ha : ∀ k : Fin 2048, Shape.Idx.along (s := S8x2048) (ix2 b r) (1 : Fin 2) k = ix2 b k := by
    intro k
    funext i
    match i with
    | ⟨0, _⟩ => rfl
    | ⟨1, _⟩ => rfl
  have h : Host.sort S8x2048 1 cmp x (ix2 b r) = x (Shape.Idx.along (s := S8x2048) (ix2 b r) (1 : Fin 2)
      (sortedFrom (n := 2048) (fun k k' => cmp (x (Shape.Idx.along (s := S8x2048) (ix2 b r) (1 : Fin 2) k))
        (x (Shape.Idx.along (s := S8x2048) (ix2 b r) (1 : Fin 2) k')) == 1#1) r)) := rfl
  rw [h]
  simp only [ha]

/-- Sorting by "greater before" gives a descending sequence. -/
theorem sortedFrom_antitone {n : ℕ} (v : Fin n → EReal) (before : Fin n → Fin n → Bool)
    (hb : ∀ k k', before k k' = true ↔ v k' < v k) : Antitone fun r => v (sortedFrom before r) := by
  have hf : ∀ k k', before k k' = false ↔ v k ≤ v k' := by
    intro k k'
    rw [← not_lt, ← hb, Bool.not_eq_true]
  intro r q hrq
  rcases hrq.lt_or_eq with h | h
  · have := sortedFrom_noInversion before before (fun a b h => (hf b a).mpr ((hb a b).mp h).le) (fun _ _ h => h)
      (fun a b c h1 h2 => (hf a c).mpr (((hf a b).mp h1).trans ((hf b c).mp h2))) r q h
    exact (hf _ _).mp this
  · rw [h]

/-- Each row is sorted in descending order, by a permutation. -/
theorem sorted_apply (y : FVec Ideal S8x2048 .f32) (b : Fin 8) : ∃ σ : Equiv.Perm (Fin 2048),
    (∀ r, sorted y (ix2 b r) = y (ix2 b (σ r))) ∧ Antitone fun r => y (ix2 b (σ r)) := by
  obtain ⟨before, hbef⟩ : ∃ before : Fin 2048 → Fin 2048 → Bool, before = fun k k' =>
    comparator_f32_d1 (F := Ideal) (Host.negf y (ix2 b k)) (Host.negf y (ix2 b k')) == 1#1 := ⟨_, rfl⟩
  have hb : ∀ k k', before k k' = true ↔ y (ix2 b k') < y (ix2 b k) := by
    intro k k'
    rw [hbef]
    show (comparator_f32_d1 (F := Ideal) (-(y (ix2 b k))) (-(y (ix2 b k'))) == 1#1) = true ↔ _
    rw [beq_iff_eq, before_iff, EReal.neg_lt_neg_iff]
  obtain ⟨σ, hσ⟩ : ∃ σ : Equiv.Perm (Fin 2048), ∀ r, σ r = sortedFrom before r :=
    ⟨Equiv.ofBijective (sortedFrom before) ⟨sortedFrom_injective before, sortedFrom_surjective before⟩,
      fun _ => Equiv.ofBijective_apply _ _ _⟩
  refine ⟨σ, ?_, ?_⟩
  · intro r
    have hs : sorted y (ix2 b r) = -(Host.sort S8x2048 1 comparator_f32_d1 (Host.negf y) (ix2 b r)) := rfl
    have hn : ∀ k, Host.negf y (ix2 b k) = -(y (ix2 b k)) := fun _ => rfl
    rw [hs, sort_apply, ← hbef, hn, neg_neg, hσ]
  · have := sortedFrom_antitone (fun k => y (ix2 b k)) before hb
    simp only [hσ]
    exact this

/-- The reference's result at an entry, of the settled row and a permutation that sorts it. -/
theorem result_apply (X : XIn) (A : AIn) (b : Fin 8) : ∃ σ : Equiv.Perm (Fin 2048),
    (Antitone fun r => settled (symOf A b) (rowOf X b) 10 (σ r))
    ∧ ∀ j, R_main_v40 (refIter X A 10) (ix2 b j)
      = max 0 (settled (symOf A b) (rowOf X b) 10 j - ranked fun r => settled (symOf A b) (rowOf X b) 10 (σ r)) := by
  obtain ⟨σ, h1, h2⟩ := sorted_apply (refIter X A 10).main_v15_4 b
  simp only [refIter_y] at h1 h2
  refine ⟨σ, h2, fun j => ?_⟩
  rw [out_eq, outOf_apply, refIter_y]
  simp only [h1]

end Cert.Proof.ReferenceIdeal
end
-- ==== Proof.Threshold.lean ====
/-
  The threshold of the sparse projection, over the reals. For entries `z` over a finite set `s`:
  `excess t = Σ max (z k - t) 0` and the threshold `τ` is where `excess τ = 1`. Two ways to it agree here:
  the support `{k | excess (z k) < 1}` averaged (`thr`), and Newton steps (`newton`) from a lower end `lo` of an interval
  of width `ε` with `1 ≤ excess lo`, `excess (lo + ε) < 1` — three of them, when at most two entries lie within the interval
  strictly below the threshold (`newton_three`). The bisection that finds `lo` is `halve`.
-/
module

public import Mathlib.Data.Real.Basic
public import Mathlib.Data.Finset.Max
public import Mathlib.Algebra.BigOperators.Group.Finset.Basic
public import Mathlib.Algebra.Order.BigOperators.Group.Finset
public import Mathlib.Tactic.Linarith
public import Mathlib.Tactic.FieldSimp
public import Mathlib.Tactic.Ring

@[expose] public section

noncomputable section

namespace Cert.Proof.Threshold

variable {ι : Type} (s : Finset ι) (z : ι → ℝ)

/-- How much of the entries lies above `t`. -/
def excess (t : ℝ) : ℝ := ∑ k ∈ s, max (z k - t) 0

/-- The entries above `t`. -/
def above (t : ℝ) : Finset ι := s.filter (fun k => t < z k)

/-- The Newton step from `t`. -/
def newton (t : ℝ) : ℝ := (∑ k ∈ above s z t, z k - 1) / ((above s z t).card : ℝ)

/-- The support: the entries strictly above the threshold. -/
def support : Finset ι := s.filter (fun k => excess s z (z k) < 1)

/-- The threshold read off the support. -/
def thr : ℝ := (∑ k ∈ support s z, z k - 1) / ((support s z).card : ℝ)

variable {s z}

/-- The excess falls as the bound rises. -/
theorem excess_anti {t u : ℝ} (h : t ≤ u) : excess s z u ≤ excess s z t :=
  Finset.sum_le_sum fun k _ => max_le_max (by linarith) le_rfl

/-- The excess is the sum over the entries above. -/
theorem excess_eq (t : ℝ) : excess s z t = ∑ k ∈ above s z t, (z k - t) := by
  unfold excess above
  rw [Finset.sum_filter]
  refine Finset.sum_congr rfl fun k _ => ?_
  split_ifs with h
  · exact max_eq_left (by linarith)
  · exact max_eq_right (by linarith)

/-- A sum of differences from one number. -/
theorem sum_sub (u : Finset ι) (t : ℝ) : ∑ k ∈ u, (z k - t) = ∑ k ∈ u, z k - u.card * t := by
  rw [Finset.sum_sub_distrib, Finset.sum_const, nsmul_eq_mul]

/-- Any part of the entries lies above `t` by no more than the excess. -/
theorem sum_le_excess {u : Finset ι} (hu : u ⊆ s) (t : ℝ) : ∑ k ∈ u, (z k - t) ≤ excess s z t :=
  (Finset.sum_le_sum fun k _ => le_max_left (z k - t) 0).trans
    (Finset.sum_le_sum_of_subset_of_nonneg hu fun k _ _ => le_max_right _ _)

/-- The excess falls strictly from an entry to a greater one. -/
theorem excess_lt {j : ι} (hj : j ∈ s) {t : ℝ} (h : t < z j) : excess s z (z j) < excess s z t := by
  refine Finset.sum_lt_sum (fun k _ => max_le_max (by linarith) le_rfl) ⟨j, hj, ?_⟩
  rw [sub_self, max_self]
  exact lt_max_of_lt_left (by linarith)

/-- The entries above a bound are among all the entries. -/
theorem above_sub (t : ℝ) : above s z t ⊆ s := Finset.filter_subset _ _

/-- Fewer entries lie above a higher bound. -/
theorem above_anti {t u : ℝ} (h : t ≤ u) : above s z u ⊆ above s z t := fun k hk => by
  rw [above, Finset.mem_filter] at hk ⊢
  exact ⟨hk.1, by linarith [hk.2]⟩

/-- Where the excess is at least one, some entry lies above the bound. -/
theorem card_pos {t : ℝ} (h : 1 ≤ excess s z t) : (0 : ℝ) < ((above s z t).card : ℝ) := by
  rw [Nat.cast_pos, Finset.card_pos]
  by_contra hne
  rw [excess_eq, Finset.not_nonempty_iff_eq_empty.mp hne, Finset.sum_empty] at h
  linarith

/-- The Newton step's defining equation. -/
theorem card_mul_newton {t : ℝ} (h : 1 ≤ excess s z t) :
    ((above s z t).card : ℝ) * newton s z t = ∑ k ∈ above s z t, z k - 1 := by
  unfold newton
  rw [mul_div_cancel₀ _ (card_pos h).ne']

/-- A Newton step goes up, -/
theorem le_newton {t : ℝ} (h : 1 ≤ excess s z t) : t ≤ newton s z t := by
  have hc := card_pos h
  have hm := card_mul_newton h
  rw [excess_eq, sum_sub] at h
  nlinarith

/-- and stays at or below the threshold. -/
theorem one_le_newton {t : ℝ} (h : 1 ≤ excess s z t) : 1 ≤ excess s z (newton s z t) := by
  have hm := card_mul_newton h
  have := sum_le_excess (z := z) (above_sub (s := s) (z := z) t) (newton s z t)

  rw [sum_sub] at this
  linarith

/-- The support is above any point at or below the threshold. -/
theorem support_sub {t : ℝ} (h : 1 ≤ excess s z t) : support s z ⊆ above s z t := fun k hk => by
  rw [support, Finset.mem_filter] at hk
  rw [above, Finset.mem_filter]
  refine ⟨hk.1, ?_⟩
  by_contra hn
  linarith [excess_anti (s := s) (z := z) (not_lt.mp hn), hk.2]

/-- A Newton step drops an entry below the threshold, while there is one. -/
theorem newton_drops {t : ℝ} (h : 1 ≤ excess s z t) {n : ℕ} (hn : ((above s z t).filter (fun k => 1 < excess s z (z k))).card ≤ n + 1) :
    ((above s z (newton s z t)).filter (fun k => 1 < excess s z (z k))).card ≤ n := by
  classical
  have hsub : (above s z (newton s z t)).filter (fun k => 1 < excess s z (z k)) ⊆ (above s z t).filter (fun k => 1 < excess s z (z k)) :=
    Finset.filter_subset_filter _ (above_anti (le_newton h))
  by_cases he : ((above s z t).filter (fun k => 1 < excess s z (z k))).Nonempty
  · obtain ⟨k, hk⟩ := he
    rw [Finset.mem_filter] at hk
    obtain ⟨m, hm, hmin⟩ := Finset.exists_min_image (above s z t) z ⟨k, hk.1⟩
    have hm1 : 1 < excess s z (z m) := lt_of_lt_of_le hk.2 (excess_anti (hmin k hk.1))
    have hmem : m ∈ (above s z t).filter (fun k => 1 < excess s z (z k)) := Finset.mem_filter.mpr ⟨hm, hm1⟩
    have hex : excess s z (z m) = ∑ k ∈ above s z t, (z k - z m) := by
      rw [excess_eq]
      refine Finset.sum_subset (above_anti (Finset.mem_filter.mp hm).2.le) fun k hk hk' => ?_
      have h1 := hmin k hk
      have h2 : ¬ z m < z k := fun h => hk' (Finset.mem_filter.mpr ⟨above_sub t hk, h⟩)
      linarith
    have hlt : z m < newton s z t := by
      have hc := card_pos h
      have hmn := card_mul_newton h
      rw [hex, sum_sub] at hm1
      by_contra hge
      nlinarith [mul_le_mul_of_nonneg_left (not_lt.mp hge) hc.le]
    have hnot : m ∉ (above s z (newton s z t)).filter (fun k => 1 < excess s z (z k)) := fun h' => by
      have := (Finset.mem_filter.mp (Finset.mem_filter.mp h').1).2
      linarith
    have := Finset.card_lt_card (Finset.ssubset_iff_subset_ne.mpr ⟨hsub, fun h' => hnot (h' ▸ hmem)⟩)
    omega
  · have : (above s z t).filter (fun k => 1 < excess s z (z k)) = ∅ := Finset.not_nonempty_iff_eq_empty.mp he
    rw [this] at hsub
    rw [Finset.subset_empty.mp hsub]
    simp

/-- An entry AT the threshold is the threshold. -/
theorem eq_thr {k : ι} (h : excess s z (z k) = 1) : z k = thr s z := by
  have heq : above s z (z k) = support s z := by
    refine Finset.Subset.antisymm (fun j hj => ?_) (support_sub h.ge)
    rw [above, Finset.mem_filter] at hj
    rw [support, Finset.mem_filter]
    exact ⟨hj.1, h ▸ excess_lt hj.1 hj.2⟩
  have hc := card_pos h.ge
  have hx := h
  rw [excess_eq, sum_sub, heq] at hx
  unfold thr
  rw [heq] at hc
  rw [eq_div_iff hc.ne']
  linarith

/-- With no entry above it strictly below the threshold, a Newton step lands on the threshold. -/
theorem newton_eq_thr {t : ℝ} (h : 1 ≤ excess s z t) (hs : (support s z).Nonempty)
    (h0 : ((above s z t).filter (fun k => 1 < excess s z (z k))).card = 0) : newton s z t = thr s z := by
  classical
  have hall : ∀ k ∈ above s z t, excess s z (z k) ≤ 1 := fun k hk => by
    by_contra hn
    have : k ∈ (above s z t).filter (fun k => 1 < excess s z (z k)) := Finset.mem_filter.mpr ⟨hk, not_le.mp hn⟩
    rw [Finset.card_eq_zero.mp h0] at this
    exact absurd this (Finset.notMem_empty k)
  have hsub := support_sub h
  have hc := card_pos h
  have hcs : (0 : ℝ) < ((support s z).card : ℝ) := Nat.cast_pos.mpr (Finset.card_pos.mpr hs)
  have hrest : ∑ k ∈ above s z t \ support s z, z k = ((above s z t \ support s z).card : ℝ) * thr s z := by
    rw [Finset.sum_congr rfl (g := fun _ => thr s z), Finset.sum_const, nsmul_eq_mul]
    intro k hk
    rw [Finset.mem_sdiff] at hk
    refine eq_thr (le_antisymm (hall k hk.1) (not_lt.mp fun hlt => hk.2 ?_))
    exact Finset.mem_filter.mpr ⟨above_sub t hk.1, hlt⟩
  have hsplit := Finset.sum_sdiff (f := z) hsub
  have hcard : ((above s z t \ support s z).card : ℝ) + ((support s z).card : ℝ) = ((above s z t).card : ℝ) := by
    exact_mod_cast Finset.card_sdiff_add_card_eq_card hsub
  have hx : ((support s z).card : ℝ) * thr s z = ∑ k ∈ support s z, z k - 1 := by
    unfold thr; rw [mul_div_cancel₀ _ hcs.ne']
  unfold newton
  rw [div_eq_iff hc.ne', ← hsplit, hrest, ← hcard]
  linarith [mul_comm (thr s z) (((above s z t \ support s z).card : ℝ) + ((support s z).card : ℝ))]

/-- THREE Newton steps from the lower end of an interval of width `ε` around the threshold reach it, when at most two
    entries are strictly below the threshold and within `ε` of it. -/
theorem newton_three {lo ε : ℝ} (hlo : 1 ≤ excess s z lo) (hhi : excess s z (lo + ε) < 1) (hs : (support s z).Nonempty)
    (hnear : (s.filter (fun k => 1 < excess s z (z k) ∧ excess s z (z k + ε) < 1)).card ≤ 2) :
    newton s z (newton s z (newton s z lo)) = thr s z := by
  have h0 : ((above s z lo).filter (fun k => 1 < excess s z (z k))).card ≤ 2 := by
    refine (Finset.card_le_card fun k hk => ?_).trans hnear
    rw [Finset.mem_filter, above, Finset.mem_filter] at hk
    exact Finset.mem_filter.mpr ⟨hk.1.1, hk.2, lt_of_le_of_lt (excess_anti (by linarith [hk.1.2])) hhi⟩
  have h1 := newton_drops hlo h0
  have h2 := newton_drops (one_le_newton hlo) h1
  exact newton_eq_thr (one_le_newton (one_le_newton hlo)) hs (Nat.le_zero.mp h2)

/-- The greatest entry is in the support. -/
theorem support_nonempty {m : ι} (hm : m ∈ s) (hmax : ∀ k ∈ s, z k ≤ z m) : (support s z).Nonempty := by
  refine ⟨m, Finset.mem_filter.mpr ⟨hm, ?_⟩⟩
  unfold excess
  rw [Finset.sum_eq_zero fun k hk => max_eq_right (by linarith [hmax k hk])]
  exact one_pos

/-! ## The bisection -/

/-- One halving of the interval. -/
def halve (s : Finset ι) (z : ι → ℝ) (p : ℝ × ℝ) : ℝ × ℝ :=
  if 1 ≤ excess s z (1 / 2 * (p.1 + p.2)) then (1 / 2 * (p.1 + p.2), p.2) else (p.1, 1 / 2 * (p.1 + p.2))

/-- What `n` halvings keep: the threshold between the ends, the width halved each time. -/
theorem halve_iter {m : ι} (hm : m ∈ s) (hmax : ∀ k ∈ s, z k ≤ z m) (n : ℕ) :
    1 ≤ excess s z ((halve s z)^[n] (z m - 1, z m)).1 ∧ excess s z ((halve s z)^[n] (z m - 1, z m)).2 < 1
      ∧ ((halve s z)^[n] (z m - 1, z m)).2 = ((halve s z)^[n] (z m - 1, z m)).1 + (1 / 2) ^ n := by
  induction n with
  | zero =>
    refine ⟨?_, ?_, by simp⟩
    · show 1 ≤ excess s z (z m - 1)
      have h1 : (1 : ℝ) ≤ max (z m - (z m - 1)) 0 := le_max_of_le_left (by linarith)
      exact h1.trans (Finset.single_le_sum (f := fun k => max (z k - (z m - 1)) 0) (fun k _ => le_max_right _ _) hm)
    · show excess s z (z m) < 1
      unfold excess
      rw [Finset.sum_eq_zero fun k hk => max_eq_right (by linarith [hmax k hk])]
      exact one_pos
  | succ n ih =>
    rw [Function.iterate_succ_apply']
    generalize (halve s z)^[n] (z m - 1, z m) = p at ih ⊢
    obtain ⟨h1, h2, h3⟩ := ih
    unfold halve
    rw [pow_succ]
    split_ifs with h
    · exact ⟨h, h2, by show p.2 = 1 / 2 * (p.1 + p.2) + _; linarith⟩
    · exact ⟨h1, not_le.mp h, by show 1 / 2 * (p.1 + p.2) = p.1 + _; linarith⟩

end Cert.Proof.Threshold

end
-- ==== Proof.Agree.lean ====
/-
  The two thresholds agree on every row of extended reals with at most two entries close below the threshold
  (`found_eq_ranked`). A row with an infinite entry `⊤`, or with none but `⊥`, has both at `⊥`; any other is real where it
  is not `⊥`, and there the real-number theorem of `Threshold` decides.
-/
module

public import proofs.«01_k».proof.Proof.Row
public import proofs.«01_k».proof.Proof.Threshold

@[expose] public section

noncomputable section

namespace Cert.Proof.Row

open Idealize.ShloMosaic Cert.Proof.Threshold

variable {ι : Type} [Fintype ι]

/-- Minus one is below zero in the extended reals. -/
theorem less_one_neg : -(1 : EReal) < 0 := by
  rw [show (-1 : EReal) = ((-1 : ℝ) : EReal) from rfl]
  exact EReal.coe_lt_coe_iff.mpr (by norm_num)

/-- Less one divided by none. -/
theorem div_none : Ideal.div ((0 : EReal) - 1) 0 = ⊥ := by
  unfold Ideal.div
  rw [if_pos rfl, if_neg]
  rw [zero_sub, not_lt]
  exact (less_one_neg).le

/-! ## Rows at an infinity -/

/-- Nothing exceeds an infinity, nor `⊥` itself. -/
theorem over_top (z : ι → EReal) : over z ⊤ = 0 := by
  unfold over
  refine Finset.sum_eq_zero fun k _ => ?_
  rw [EReal.sub_top]
  exact max_eq_right bot_le

/-- A row of −∞ entries has excess zero over the bound −∞. -/
theorem over_bot {z : ι → EReal} (h : ∀ k, z k = ⊥) : over z ⊥ = 0 := by
  unfold over
  refine Finset.sum_eq_zero fun k _ => ?_
  rw [h k, show (⊥ : EReal) - ⊥ = ⊥ from EReal.bot_sub _]
  exact max_eq_right bot_le

/-- Zero is not at most zero minus one. -/
theorem not_le_less_one : ¬ (0 : EReal) ≤ 0 - 1 := by
  rw [zero_sub, not_le]
  exact less_one_neg

/-- Half of +∞ plus +∞ is +∞. -/
theorem half_top : ((1 / 2 : ℝ) : EReal) * (⊤ + ⊤) = ⊤ := by
  rw [EReal.top_add_top]
  exact EReal.coe_mul_top_of_pos (by norm_num)

/-- Half of −∞ plus −∞ is −∞. -/
theorem half_bot : ((1 / 2 : ℝ) : EReal) * (⊥ + ⊥) = ⊥ := by
  rw [EReal.bot_add]
  exact EReal.coe_mul_bot_of_pos (by norm_num)

/-- The bisection stays at `⊤`, -/
theorem bisect_top (z : ι → EReal) : bisect z (⊤, ⊤) = (⊤, ⊤) := by
  unfold bisect
  simp only [half_top, over_top]
  rw [if_neg not_le_less_one]

/-- and on a row of `⊥`s at `⊥`. -/
theorem bisect_bot {z : ι → EReal} (h : ∀ k, z k = ⊥) : bisect z (⊥, ⊥) = (⊥, ⊥) := by
  unfold bisect
  simp only [half_bot, over_bot h]
  rw [if_neg not_le_less_one]

/-- A Newton step from +∞ gives −∞. -/
theorem refine_top (z : ι → EReal) : refine z ⊤ = ⊥ := by
  unfold refine
  simp only [not_top_lt, if_false, Finset.sum_const_zero]
  exact div_none

/-- On a row of −∞ entries a Newton step from −∞ stays at −∞. -/
theorem refine_all_bot {z : ι → EReal} (h : ∀ k, z k = ⊥) : refine z ⊥ = ⊥ := by
  unfold refine
  simp only [h, lt_irrefl, if_false, Finset.sum_const_zero]
  exact div_none

/-- A sum without `⊥` is not `⊥`; -/
theorem sum_ne_bot {κ : Type} (s : Finset κ) (f : κ → EReal) (h : ∀ k ∈ s, f k ≠ ⊥) : ∑ k ∈ s, f k ≠ ⊥ := by
  classical
  induction s using Finset.induction_on with
  | empty => simp
  | insert a s ha ih =>
    rw [Finset.sum_insert ha]
    exact EReal.add_ne_bot_iff.mpr ⟨h a (Finset.mem_insert_self a s), ih fun k hk => h k (Finset.mem_insert_of_mem hk)⟩

/-- with a `⊤` in it, it is `⊤`. -/
theorem sum_eq_top {κ : Type} (s : Finset κ) (f : κ → EReal) (h : ∀ k ∈ s, f k ≠ ⊥) {m : κ} (hm : m ∈ s) (hf : f m = ⊤) :
    ∑ k ∈ s, f k = ⊤ := by
  classical
  rw [← Finset.add_sum_erase s f hm, hf]
  exact EReal.top_add_of_ne_bot (sum_ne_bot _ _ fun k hk => h k (Finset.mem_of_mem_erase hk))

/-- A sum of ones and zeros counts. -/
theorem sum_count {κ : Type} (s : Finset κ) (P : κ → Prop) [DecidablePred P] :
    (∑ k ∈ s, if P k then (1 : EReal) else 0) = (((s.filter P).card : ℝ) : EReal) := by
  rw [← Finset.sum_filter, Finset.sum_const, EReal.nsmul_eq_mul, mul_one]
  simp

/-- On a row with an entry +∞ a Newton step from −∞ gives +∞. -/
theorem refine_bot_top {z : ι → EReal} {m : ι} (hm : z m = ⊤) : refine z ⊥ = ⊤ := by
  unfold refine
  rw [sum_count, ← Finset.sum_filter, sum_eq_top _ _ (fun k hk => (Finset.mem_filter.mp hk).2.ne')
    (Finset.mem_filter.mpr ⟨Finset.mem_univ m, by rw [hm]; exact bot_lt_top⟩) hm]
  have hc : (0 : ℝ) < (((Finset.univ.filter fun k => ⊥ < z k).card : ℕ) : ℝ) :=
    Nat.cast_pos.mpr (Finset.card_pos.mpr ⟨m, Finset.mem_filter.mpr ⟨Finset.mem_univ m, by rw [hm]; exact bot_lt_top⟩⟩)
  rw [show (⊤ : EReal) - 1 = ⊤ from EReal.top_sub_coe 1, Ideal.div_coe hc.ne']
  exact EReal.top_mul_coe_of_pos (one_div_pos.mpr hc)

/-- With a `⊤` in the row the kernel's threshold is `⊥`. -/
theorem found_top {z : ι → EReal} {m : ι} (hm : z m = ⊤) : found z = ⊥ := by
  have hp : peak z = ⊤ := top_le_iff.mp (hm ▸ Finset.le_sup (f := z) (Finset.mem_univ m))
  unfold found
  rw [hp, show (⊤ : EReal) - 1 = ⊤ from EReal.top_sub_coe 1, Function.iterate_fixed (bisect_top z), refine_top, refine_bot_top hm, refine_top]

/-- On a row of `⊥`s too. -/
theorem found_bot {z : ι → EReal} (h : ∀ k, z k = ⊥) : found z = ⊥ := by
  have hp : peak z = ⊥ := (Finset.sup_eq_bot_iff z Finset.univ).mpr fun k _ => h k
  unfold found
  rw [hp, EReal.bot_sub, Function.iterate_fixed (bisect_bot h), refine_all_bot h, refine_all_bot h, refine_all_bot h]

/-- Nothing kept: the reference's threshold is `⊥`. -/
theorem ranked_none {n : ℕ} {s : Fin n → EReal} (h : ∀ r, kept s r = 0) : ranked s = ⊥ := by
  unfold ranked
  simp only [h, mul_zero, Finset.sum_const_zero]
  exact div_none

/-- One plus a rank, as one real number. -/
theorem rank_pos (r : ℕ) : (1 : EReal) + (((r : ℕ) : ℝ) : EReal) = ((1 + (r : ℝ) : ℝ) : EReal) := by
  rw [EReal.coe_add]; rfl

/-- An entry `⊥` is not kept. -/
theorem kept_bot {n : ℕ} {s : Fin n → EReal} {r : Fin n} (h : s r = ⊥) : kept s r = 0 := by
  unfold kept
  rw [h, rank_pos, EReal.coe_mul_bot_of_pos (by positivity), EReal.add_bot]
  exact if_neg not_lt_bot

/-- A sorted row with an entry +∞ has the threshold −∞. -/
theorem ranked_top {n : ℕ} {s : Fin n → EReal} (hs : Antitone s) {m : Fin n} (hm : s m = ⊤) : ranked s = ⊥ := by
  refine ranked_none fun r => ?_
  by_cases hr : s r = ⊥
  · exact kept_bot hr
  · have h0 : s ⟨0, m.pos⟩ = ⊤ := top_le_iff.mp (hm ▸ hs (Fin.mk_le_of_le_val (Nat.zero_le _)))
    unfold kept
    rw [sum_eq_top (Finset.univ.filter (· ≤ r)) s (m := (⟨0, m.pos⟩ : Fin n)) (fun q hq hb => hr (le_bot_iff.mp (hb ▸ hs (Finset.mem_filter.mp hq).2)))
      (Finset.mem_filter.mpr ⟨Finset.mem_univ _, Fin.mk_le_of_le_val (Nat.zero_le _)⟩) h0]
    exact if_neg not_top_lt

/-- A sorted row of −∞ entries has the threshold −∞. -/
theorem ranked_bot {n : ℕ} {s : Fin n → EReal} (h : ∀ r, s r = ⊥) : ranked s = ⊥ := ranked_none fun r => kept_bot (h r)

/-! ## Rows real where they are not `⊥` -/

/-- The real entries. -/
def reals (z : ι → EReal) : Finset ι := Finset.univ.filter fun k => z k ≠ ⊥

/-- Their values. -/
def vals (z : ι → EReal) (k : ι) : ℝ := (z k).toReal

variable {z : ι → EReal}

/-- In a row without +∞, an entry that is not −∞ is its real value. -/
theorem val_eq (hz : ∀ k, z k ≠ ⊤) {k : ι} (h : z k ≠ ⊥) : z k = ((vals z k : ℝ) : EReal) :=
  (EReal.coe_toReal (hz k) h).symm

/-- The positive part commutes with the embedding of the reals. -/
theorem coe_max (x : ℝ) : max ((x : ℝ) : EReal) 0 = ((max x 0 : ℝ) : EReal) :=
  (EReal.coe_strictMono.monotone.map_max (a := x) (b := 0)).symm

/-- A finite sum commutes with the embedding of the reals. -/
theorem coe_sum {κ : Type} (s : Finset κ) (f : κ → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- What the row exceeds a real by is the excess of its real entries. -/
theorem over_coe (hz : ∀ k, z k ≠ ⊤) (t : ℝ) : over z (t : EReal) = ((excess (reals z) (vals z) t : ℝ) : EReal) := by
  unfold over excess reals
  rw [coe_sum, Finset.sum_filter]
  refine Finset.sum_congr rfl fun k _ => ?_
  split_ifs with h
  · rw [val_eq hz h, ← EReal.coe_sub, coe_max]
  · rw [not_not.mp h, EReal.bot_sub]
    exact max_eq_right bot_le

/-- A step up the row from a real. -/
theorem refine_coe (hz : ∀ k, z k ≠ ⊤) {t : ℝ} (h : 1 ≤ excess (reals z) (vals z) t) :
    refine z (t : EReal) = ((newton (reals z) (vals z) t : ℝ) : EReal) := by
  have hset : (Finset.univ.filter fun k => (t : EReal) < z k) = above (reals z) (vals z) t := by
    ext k
    simp only [above, reals, Finset.mem_filter, Finset.mem_univ, true_and]
    constructor
    · intro hk
      have hb : z k ≠ ⊥ := ne_bot_of_gt hk
      exact ⟨hb, EReal.coe_lt_coe_iff.mp (val_eq hz hb ▸ hk)⟩
    · rintro ⟨hb, hk⟩
      rw [val_eq hz hb]
      exact EReal.coe_lt_coe_iff.mpr hk
  have hc := card_pos h
  unfold refine newton
  rw [sum_count, ← Finset.sum_filter, hset, Ideal.div_coe hc.ne']
  have hs : (∑ k ∈ above (reals z) (vals z) t, z k) = ∑ k ∈ above (reals z) (vals z) t, ((vals z k : ℝ) : EReal) :=
    Finset.sum_congr rfl fun k hk => val_eq hz (Finset.mem_filter.mp (above_sub (s := reals z) t hk)).2
  rw [hs, ← coe_sum, show (1 : EReal) = ((1 : ℝ) : EReal) from rfl,
    ← EReal.coe_sub, ← EReal.coe_mul, mul_one_div]

/-- A halving of an interval of reals. -/
theorem bisect_coe (hz : ∀ k, z k ≠ ⊤) (p : ℝ × ℝ) :
    bisect z ((p.1 : EReal), (p.2 : EReal)) = (((halve (reals z) (vals z) p).1 : EReal), ((halve (reals z) (vals z) p).2 : EReal)) := by
  unfold bisect halve
  dsimp only
  rw [← EReal.coe_add, ← EReal.coe_mul, over_coe hz, show (1 : EReal) = ((1 : ℝ) : EReal) from rfl, ← EReal.coe_sub]
  have hi : (0 : EReal) ≤ ((excess (reals z) (vals z) (1 / 2 * (p.1 + p.2)) - 1 : ℝ) : EReal)
      ↔ 1 ≤ excess (reals z) (vals z) (1 / 2 * (p.1 + p.2)) := by
    rw [EReal.coe_nonneg, sub_nonneg]
  simp only [hi]
  split_ifs <;> rfl

/-- In a row without +∞, bisection of a real interval is bisection over the reals. -/
theorem bisect_iter (hz : ∀ k, z k ≠ ⊤) (p : ℝ × ℝ) (n : ℕ) : (bisect z)^[n] ((p.1 : EReal), (p.2 : EReal))
    = ((((halve (reals z) (vals z))^[n] p).1 : EReal), (((halve (reals z) (vals z))^[n] p).2 : EReal)) := by
  induction n with
  | zero => rfl
  | succ n ih => rw [Function.iterate_succ_apply', ih, bisect_coe hz, Function.iterate_succ_apply']

/-- The greatest entry is real. -/
theorem peak_coe (hz : ∀ k, z k ≠ ⊤) {k0 : ι} (h0 : z k0 ≠ ⊥) :
    ∃ m ∈ reals z, (∀ k ∈ reals z, vals z k ≤ vals z m) ∧ peak z = ((vals z m : ℝ) : EReal) := by
  obtain ⟨m, hm, hmax⟩ := Finset.exists_max_image (reals z) (vals z) ⟨k0, Finset.mem_filter.mpr ⟨Finset.mem_univ _, h0⟩⟩
  have hb := (Finset.mem_filter.mp hm).2
  refine ⟨m, hm, hmax, le_antisymm (Finset.sup_le fun k _ => ?_) (val_eq hz hb ▸ Finset.le_sup (f := z) (Finset.mem_univ m))⟩
  by_cases h : z k = ⊥
  · rw [h]; exact bot_le
  · rw [val_eq hz h]
    exact EReal.coe_le_coe_iff.mpr (hmax k (Finset.mem_filter.mpr ⟨Finset.mem_univ _, h⟩))

/-- The kernel's threshold is the threshold of the real entries, when at most two are close below it. -/
theorem found_coe (hz : ∀ k, z k ≠ ⊤) {k0 : ι} (h0 : z k0 ≠ ⊥) [DecidablePred (Close z)]
    (hc : (Finset.univ.filter (Close z)).card ≤ 2) : found z = ((thr (reals z) (vals z) : ℝ) : EReal) := by
  obtain ⟨m, hm, hmax, hp⟩ := peak_coe hz h0
  obtain ⟨h1, h2, h3⟩ := halve_iter hm hmax 18
  have hnear : ((reals z).filter (fun k => 1 < excess (reals z) (vals z) (vals z k)
      ∧ excess (reals z) (vals z) (vals z k + (1 / 2) ^ 18) < 1)).card ≤ 2 := by
    refine (Finset.card_le_card fun k hk => ?_).trans hc
    obtain ⟨hk, h1, h2⟩ := Finset.mem_filter.mp hk
    have hb := (Finset.mem_filter.mp hk).2
    refine Finset.mem_filter.mpr ⟨Finset.mem_univ _, ?_, ?_⟩
    · rw [val_eq hz hb, over_coe hz]
      exact EReal.coe_lt_coe_iff.mpr h1
    · have : (∑ j, max ((z j - z k) - (((1 / 2) ^ 18 : ℝ) : EReal)) 0) = over z ((vals z k + (1 / 2) ^ 18 : ℝ) : EReal) := by
        unfold over
        refine Finset.sum_congr rfl fun j _ => ?_
        by_cases hj : z j = ⊥
        · rw [hj, EReal.bot_sub, EReal.bot_sub, EReal.bot_sub]
        · rw [val_eq hz hj, val_eq hz hb, ← EReal.coe_sub, ← EReal.coe_sub, ← EReal.coe_sub, sub_sub]
      rw [this, over_coe hz]
      exact EReal.coe_lt_coe_iff.mpr h2
  rw [h3] at h2
  have h4 := newton_three h1 h2 (support_nonempty hm hmax) hnear
  unfold found
  have hlo := bisect_iter hz (vals z m - 1, vals z m) 18
  rw [hp, show (1 : EReal) = ((1 : ℝ) : EReal) from rfl, ← EReal.coe_sub]
  dsimp only at hlo
  rw [hlo]
  dsimp only
  rw [refine_coe hz h1, refine_coe hz (one_le_newton h1), refine_coe hz (one_le_newton (one_le_newton h1)), h4]

/-- An entry of the sorted row is kept just when it is in the support. -/
theorem kept_coe {n : ℕ} {z : Fin n → EReal} (hz : ∀ k, z k ≠ ⊤) (σ : Equiv.Perm (Fin n)) (hσ : Antitone fun r => z (σ r))
    (r : Fin n) : kept (fun r => z (σ r)) r = if σ r ∈ support (reals z) (vals z) then 1 else 0 := by
  by_cases hb : z (σ r) = ⊥
  · rw [kept_bot (s := fun r => z (σ r)) hb, if_neg]
    intro h
    exact (Finset.mem_filter.mp (Finset.mem_filter.mp h).1).2 hb
  · have hq : ∀ q ≤ r, z (σ q) ≠ ⊥ := fun q hq h => hb (le_bot_iff.mp (h ▸ hσ hq))
    have hin : σ r ∈ reals z := Finset.mem_filter.mpr ⟨Finset.mem_univ _, hb⟩
    have hsum : (∑ q ∈ Finset.univ.filter (· ≤ r), z (σ q)) = ((∑ q ∈ Finset.univ.filter (· ≤ r), vals z (σ q) : ℝ) : EReal) := by
      rw [coe_sum]
      exact Finset.sum_congr rfl fun q h => val_eq hz (hq q (Finset.mem_filter.mp h).2)
    have hex : excess (reals z) (vals z) (vals z (σ r))
        = (∑ q ∈ Finset.univ.filter (· ≤ r), vals z (σ q)) - (1 + (r.val : ℝ)) * vals z (σ r) := by
      have hcard : ((Finset.univ.filter (· ≤ r)).card : ℝ) = 1 + (r.val : ℝ) := by
        have : (Finset.univ.filter (· ≤ r)).card = r.val + 1 := by
          rw [show (Finset.univ.filter (· ≤ r)) = Finset.Iic r from by ext; simp, Fin.card_Iic]
        rw [this]; push_cast; ring
      unfold excess reals
      rw [← hcard, ← sum_sub (z := fun q => vals z (σ q)), Finset.sum_filter, Finset.sum_filter, ← Equiv.sum_comp σ]
      refine Finset.sum_congr rfl fun q _ => ?_
      by_cases hqr : q ≤ r
      · have h1 := hq q hqr
        rw [if_pos h1, if_pos hqr]
        refine max_eq_left (sub_nonneg.mpr ?_)
        have := hσ hqr
        dsimp only at this
        rw [val_eq hz h1, val_eq hz hb] at this
        exact EReal.coe_le_coe_iff.mp this
      · rw [if_neg hqr]
        split_ifs with h1
        · have := hσ (not_le.mp hqr).le
          dsimp only at this
          rw [val_eq hz h1, val_eq hz hb] at this
          exact max_eq_right (sub_nonpos.mpr (EReal.coe_le_coe_iff.mp this))
        · rfl
    unfold kept
    dsimp only
    rw [hsum, rank_pos]
    refine if_congr ?_ rfl rfl
    rw [val_eq hz hb, ← EReal.coe_mul, show (1 : EReal) = ((1 : ℝ) : EReal) from rfl, ← EReal.coe_add]
    rw [EReal.coe_lt_coe_iff, support, Finset.mem_filter, hex]
    constructor
    · intro h; exact ⟨hin, by linarith⟩
    · intro h; linarith [h.2]

/-- The reference's threshold is the threshold of the real entries. -/
theorem ranked_coe {n : ℕ} {z : Fin n → EReal} (hz : ∀ k, z k ≠ ⊤) {k0 : Fin n} (h0 : z k0 ≠ ⊥) (σ : Equiv.Perm (Fin n))
    (hσ : Antitone fun r => z (σ r)) : ranked (fun r => z (σ r)) = ((thr (reals z) (vals z) : ℝ) : EReal) := by
  obtain ⟨m, hm, hmax, -⟩ := peak_coe hz h0
  have hc : (0 : ℝ) < ((support (reals z) (vals z)).card : ℝ) := Nat.cast_pos.mpr (Finset.card_pos.mpr (support_nonempty hm hmax))
  unfold ranked thr
  simp only [kept_coe hz σ hσ]
  rw [Equiv.sum_comp σ (fun k => if k ∈ support (reals z) (vals z) then (1 : EReal) else 0),
    Equiv.sum_comp σ (fun k => z k * if k ∈ support (reals z) (vals z) then (1 : EReal) else 0), sum_count,
    Finset.filter_univ_mem, Ideal.div_coe hc.ne']
  have hs : (∑ k, z k * if k ∈ support (reals z) (vals z) then (1 : EReal) else 0)
      = ((∑ k ∈ support (reals z) (vals z), vals z k : ℝ) : EReal) := by
    rw [coe_sum, ← Finset.filter_univ_mem (support (reals z) (vals z)), Finset.sum_filter, Finset.filter_univ_mem]
    refine Finset.sum_congr rfl fun k _ => ?_
    split_ifs with h
    · rw [mul_one]
      exact val_eq hz (Finset.mem_filter.mp (Finset.mem_filter.mp h).1).2
    · rw [mul_zero]
  rw [hs, show (1 : EReal) = ((1 : ℝ) : EReal) from rfl, ← EReal.coe_sub, ← EReal.coe_mul, mul_one_div]

/-- The two thresholds agree. -/
theorem found_eq_ranked {n : ℕ} (z : Fin n → EReal) [DecidablePred (Close z)] (hc : (Finset.univ.filter (Close z)).card ≤ 2)
    (σ : Equiv.Perm (Fin n)) (hσ : Antitone fun r => z (σ r)) : found z = ranked (fun r => z (σ r)) := by
  by_cases ht : ∃ k, z k = ⊤
  · obtain ⟨k, hk⟩ := ht
    rw [found_top hk, ranked_top hσ (m := σ.symm k) (by rw [Equiv.apply_symm_apply]; exact hk)]
  · have hz : ∀ k, z k ≠ ⊤ := fun k hk => ht ⟨k, hk⟩
    by_cases hb : ∀ k, z k = ⊥
    · rw [found_bot hb, ranked_bot fun r => hb (σ r)]
    · obtain ⟨k0, h0⟩ := not_forall.mp hb
      rw [found_coe hz h0 hc, ranked_coe hz h0 σ hσ]

end Cert.Proof.Row
end
-- ==== Proof.Precondition.lean ====
/-
  The precondition, read row by row: where it holds, at most two entries of each settled row are close below the threshold
  (`few`). Its straight line of ten steps is first put as `next` applied ten times (`fn_eq`).
-/
module

public import proofs.«01_k».proof.Proof.Agree
public import proofs.«01_k».proof.Proof.Gen.Pre_few_near_threshold

@[expose] public section

set_option maxRecDepth 8192

noncomputable section

namespace Cert.Proof.Precondition

open Idealize.ShloMosaic
open Cert.Pre_few_near_threshold Cert.Pre_few_near_threshold.Gen
open Cert.Proof.Row

/-- The rows, and the matrices. -/
abbrev Rows : Type := FVec Ideal S8x2048 .f32
abbrev Mats : Type := FVec Ideal S8x2048x2048 .f32

/-- The matrix and its transpose, added. -/
def sym (A : Mats) : Mats := addf A (transpose S8x2048x2048 [0, 2, 1] A transposes_S8x2048x2048_S8x2048x2048_0_2_1)

/-- The step sizes. -/
def sizes (M : Mats) : Rows :=
  Host.divf (broadcastInDim S8x2048 ![] bcast_S_S8x2048 (constant (F := Ideal) S_ .f32 0x3F800000#32))
    (addf (broadcastInDim S8x2048 ![] bcast_S_S8x2048 (constant (F := Ideal) S_ .f32 0x3F800000#32))
      (Host.divf (Host.reduceAdd M (constant (F := Ideal) S_ .f32 0x00000000#32) reducesTo_S8x2048x2048_S8x2048_d2 h_S_)
        (broadcastInDim S8x2048 ![] bcast_S_S8x2048 (id (Host.sqrt (constant (F := Ideal) S_ .f32 0x3C23D70A#32))))))

/-- The differences of a row's entries. -/
def gaps (y : Rows) : Mats :=
  subf (broadcastInDim S8x2048x2048 ![0, 1] bcast_S8x2048_S8x2048x2048_0_1 y)
    (broadcastInDim S8x2048x2048 ![0, 2] bcast_S8x2048_S8x2048x2048_0_2 y)

/-- The slopes of the smoothed absolute value at the differences. -/
def slopes (y : Rows) : Mats :=
  Host.divf (gaps y) (Host.sqrt (addf (mulf (gaps y) (gaps y))
    (broadcastInDim S8x2048x2048 ![] bcast_S_S8x2048x2048 (constant (F := Ideal) S_ .f32 0x3C23D70A#32))))

/-- One step from `y`, its slopes given. -/
def nextOf (X : Rows) (M : Mats) (e : Rows) (y : Rows) (q : Mats) : Rows :=
  subf y (mulf e (addf (subf y X)
    (Host.reduceAdd (mulf M q) (constant (F := Ideal) S_ .f32 0x00000000#32) reducesTo_S8x2048x2048_S8x2048_d2 h_S_)))

/-- One step. -/
def next (X : Rows) (M : Mats) (e : Rows) (y : Rows) : Rows := nextOf X M e y (slopes y)

/-- By what entry `k` exceeds entry `j`. -/
def rises (y : Rows) : Mats :=
  subf (broadcastInDim S8x2048x2048 ![0, 2] bcast_S8x2048_S8x2048x2048_0_2 y)
    (broadcastInDim S8x2048x2048 ![0, 1] bcast_S8x2048_S8x2048x2048_0_1 y)

/-- Whether at most two entries of each row are close. -/
def verdict (y : Rows) : IVec S8 1 :=
  cmpf .ole (Host.reduceAdd (uitofp (F := Ideal) .f32 (andi
      (cmpf .ogt (Host.reduceAdd (maximumf (rises y) (broadcastInDim S8x2048x2048 ![] bcast_S_S8x2048x2048 (constant (F := Ideal) S_ .f32 0x00000000#32)))
        (constant (F := Ideal) S_ .f32 0x00000000#32) reducesTo_S8x2048x2048_S8x2048_d2 h_S_)
        (broadcastInDim S8x2048 ![] bcast_S_S8x2048 (constant (F := Ideal) S_ .f32 0x3F800000#32)))
      (cmpf .olt (Host.reduceAdd (maximumf (subf (rises y) (broadcastInDim S8x2048x2048 ![] bcast_S_S8x2048x2048 (constant (F := Ideal) S_ .f32 0x36800000#32)))
          (broadcastInDim S8x2048x2048 ![] bcast_S_S8x2048x2048 (constant (F := Ideal) S_ .f32 0x00000000#32)))
        (constant (F := Ideal) S_ .f32 0x00000000#32) reducesTo_S8x2048x2048_S8x2048_d2 h_S_)
        (broadcastInDim S8x2048 ![] bcast_S_S8x2048 (constant (F := Ideal) S_ .f32 0x3F800000#32)))))
    (constant (F := Ideal) S_ .f32 0x00000000#32) reducesTo_S8x2048_S8_d1 h_S_)
    (broadcastInDim S8 ![] bcast_S_S8 (constant (F := Ideal) S_ .f32 0x40000000#32))

section parts

variable (X : Rows) (M : Mats) (e y : Rows) (q : Mats)

/-! The printed parts, one after another. -/

/-- The last part of the precondition takes one step and gives the verdict. -/
theorem part7_eq : fn_part7 X M e y q = verdict (nextOf X M e y q) := rfl

/-- The precondition's part 6 computes the next slopes. -/
theorem part6_eq : fn_part6 X M e y (broadcastInDim S8x2048x2048 ![0, 1] bcast_S8x2048_S8x2048x2048_0_1 y)
    = fn_part7 X M e (next X M e y) (slopes (next X M e y)) := rfl

/-- The precondition's part 5 takes a step of the descent. -/
theorem part5_eq : fn_part5 X M e y q = fn_part6 X M e (next X M e (nextOf X M e y q))
    (broadcastInDim S8x2048x2048 ![0, 1] bcast_S8x2048_S8x2048x2048_0_1 (next X M e (nextOf X M e y q))) := rfl

/-- The precondition's part 4 computes the next slopes. -/
theorem part4_eq : fn_part4 X M e y (broadcastInDim S8x2048x2048 ![0, 1] bcast_S8x2048_S8x2048x2048_0_1 y)
    = fn_part5 X M e (next X M e y) (slopes (next X M e y)) := rfl

/-- The precondition's part 3 takes a step of the descent. -/
theorem part3_eq : fn_part3 X M e y q = fn_part4 X M e (next X M e (nextOf X M e y q))
    (broadcastInDim S8x2048x2048 ![0, 1] bcast_S8x2048_S8x2048x2048_0_1 (next X M e (nextOf X M e y q))) := rfl

/-- The precondition's part 2 computes the next slopes. -/
theorem part2_eq : fn_part2 X M e y (broadcastInDim S8x2048x2048 ![0, 1] bcast_S8x2048_S8x2048x2048_0_1 y)
    = fn_part3 X M e (next X M e y) (slopes (next X M e y)) := rfl

/-- The precondition's part 1 takes two steps of the descent. -/
theorem part1_eq : fn_part1 X M e q = fn_part2 X M e (next X M e (nextOf X M e X q))
    (broadcastInDim S8x2048x2048 ![0, 1] bcast_S8x2048_S8x2048x2048_0_1 (next X M e (nextOf X M e X q))) := rfl

end parts

/-- The precondition starts from the input rows and the symmetric parts. -/
theorem part0_eq (X : Rows) (A : Mats) : fn X A = fn_part1 X (sym A) (sizes (sym A)) (slopes X) := rfl

/-- The printed predicate is the verdict on the row ten steps on. -/
theorem fn_eq (X : Rows) (A : Mats) : fn X A = verdict ((next X (sym A) (sizes (sym A)))^[10] X) := by
  rw [part0_eq, part1_eq, part2_eq, part3_eq, part4_eq, part5_eq, part6_eq, part7_eq]
  rfl

/-- The symmetrised matrix of batch row `b`, the row of `x`. -/
def symOf (A : Mats) (b : Fin 8) (j k : Fin 2048) : EReal := A (ix3 b j k) + A (ix3 b k j)
def rowOf (X : Rows) (b : Fin 8) (k : Fin 2048) : EReal := X (ix2 b k)

/-- The symmetric part, read at an entry. -/
theorem sym_apply (A : Mats) (b : Fin 8) (j k : Fin 2048) : sym A (ix3 b j k) = symOf A b j k := by
  unfold symOf
  pointwise [sym]

/-- The step size. -/
theorem sizes_apply (A : Mats) (b : Fin 8) (j : Fin 2048) : sizes (sym A) (ix2 b j) = size (symOf A b) j := by
  unfold size symOf
  pointwise [sizes, sym]
  rw [show (id (Host.sqrt (constant S_ FTy.f32 1008981770#32)) : FVec Ideal S_ .f32) ix0 = rootEps from root_bits]

/-- One step is one step of descent in every row. -/
theorem next_apply (X : Rows) (A : Mats) (y : Rows) (z : Fin 8 → Fin 2048 → EReal) (h : ∀ b j, y (ix2 b j) = z b j)
    (b : Fin 8) (j : Fin 2048) :
    next X (sym A) (sizes (sym A)) y (ix2 b j) = descend (symOf A b) (rowOf X b) (z b) j := by
  unfold descend pen smooth rowOf
  pointwise [next, nextOf, slopes, gaps]
  simp only [h, sizes_apply, sym_apply, eps_bits]

/-- Ten steps settle the row. -/
theorem next_iter (X : Rows) (A : Mats) (n : ℕ) (b : Fin 8) (j : Fin 2048) :
    ((next X (sym A) (sizes (sym A)))^[n] X) (ix2 b j) = settled (symOf A b) (rowOf X b) n j := by
  induction n generalizing b j with
  | zero => rfl
  | succ n ih =>
    rw [settled_succ, Function.iterate_succ_apply']
    exact next_apply X A _ (fun b => settled (symOf A b) (rowOf X b) n) (fun b j => ih b j) b j

/-- Two truth values, both, as a number. -/
theorem both_cast (P Q : Prop) [Decidable P] [Decidable Q] :
    FloatOps.uitofp (F := Ideal) FTy.f32 (IntOp.andi (BitVec.ofBool (decide P)) (BitVec.ofBool (decide Q)))
      = if P ∧ Q then (1 : EReal) else 0 := by
  show (((IntOp.andi (BitVec.ofBool (decide P)) (BitVec.ofBool (decide Q))).toNat : ℝ) : EReal) = _
  by_cases h1 : P <;> by_cases h2 : Q <;> simp [h1, h2, IntOp.andi]

/-- Where the verdict is one, at most two entries are close. -/
theorem verdict_apply (y : Rows) (b : Fin 8) (z : Fin 2048 → EReal) (h : ∀ j, y (ix2 b j) = z j) [DecidablePred (Close z)]
    (hv : verdict y (ix1 b) = 1#1) : (Finset.univ.filter (Close z)).card ≤ 2 := by
  revert hv
  pointwise [verdict, rises]
  intro hv
  simp only [h, both_cast, width_bits, two_bits] at hv
  rw [sum_count] at hv
  have h2 : ((Finset.univ.filter fun j => 1 < (∑ k, max (z k - z j) 0) ∧ (∑ k, max (z k - z j - (((1 / 2) ^ 18 : ℝ) : EReal)) 0) < 1).card : ℝ) ≤ 2 := by
    by_contra hn
    rw [decide_eq_false fun h => hn (EReal.coe_le_coe_iff.mp h)] at hv
    exact absurd hv (by decide)
  have h3 : (Finset.univ.filter (Close z)) = Finset.univ.filter fun j => 1 < (∑ k, max (z k - z j) 0) ∧ (∑ k, max (z k - z j - (((1 / 2) ^ 18 : ℝ) : EReal)) 0) < 1 :=
    Finset.filter_congr fun _ _ => Iff.rfl
  rw [h3]
  exact_mod_cast h2

/-- Where the precondition holds, every settled row has at most two close entries. -/
theorem few (X : Rows) (A : Mats) (h : fn X A = fun _ => 1#1) (b : Fin 8)
    [DecidablePred (Close (settled (symOf A b) (rowOf X b) 10))] :
    (Finset.univ.filter (Close (settled (symOf A b) (rowOf X b) 10))).card ≤ 2 := by
  refine verdict_apply _ b _ (fun j => next_iter X A 10 b j) ?_
  rw [← fn_eq, h]

end Cert.Proof.Precondition
end
-- ==== Proof.lean ====
/-
  The certificate's claims, assembled: the two kernel frames, the reference's frame, the two named constants, and the value
  claim — where at most two entries of each settled row are close below its threshold, the kernel's array and the
  reference's are equal.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_few_near_threshold
public import proofs.«01_k».proof.Proof.KernelRun
public import proofs.«01_k».proof.Proof.KernelResult
public import proofs.«01_k».proof.Proof.ReferenceThreshold
public import proofs.«01_k».proof.Proof.Precondition
public import Idealize.ShloMosaic.Adequacy
public import Idealize.ShloMosaic.Init

@[expose] public section

noncomputable section

namespace Cert.Proof

open Idealize.ShloMosaic Idealize.SL.Sem
open Cert.Proof.Row

/-- The kernel's array is the reference's, where the precondition holds of the arguments. -/
theorem result_eq (X : FVec Ideal Cert.KernelIdeal.S8x2048 .f32) (A : FVec Ideal Cert.KernelIdeal.S8x2048x2048 .f32)
    (h : Cert.Pre_few_near_threshold.fn (F := Ideal) X A = fun _ => 1#1) :
    Cert.ReferenceIdeal.Step.R_main_v40 (ReferenceIdeal.refIter X A 10) = KernelIdeal.out2 X A := by
  classical
  funext i
  idx_vars i
  obtain ⟨σ, hσ, hr⟩ := ReferenceIdeal.result_apply X A i0
  have hf := found_eq_ranked (settled (ReferenceIdeal.symOf A i0) (ReferenceIdeal.rowOf X i0) 10)
    (Precondition.few X A h i0) σ hσ
  rw [hr, ← hf, max_comm]
  rfl

/-- The value claim. -/
theorem algebraic : Cert.algebraic_KernelIdeal_ReferenceIdeal_pre_few_near_threshold := by
  intro m ρ m' ρ' hpre hagree
  refine ⟨fun c => KernelIdeal.out2 (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), KernelIdeal.run m ρ, ?_⟩
  refine (θ_run _ _ _).mono (fun _ h c => ⟨(h c).1.trans ?_, (h c).2⟩) (ReferenceIdeal.run m' ρ')
  rw [(hagree c).1, (hagree c).2]
  exact result_eq _ _ (hpre c)

/-- The kernel's roundings of the smoothing constant and of its root, named. -/
theorem preserves : Cert.preserves_Kernel_KernelIdeal :=
  ⟨IdealRules.named_const.statement Cert.KernelIdeal.κ "root_eps" .f32 0x3DCCCCCD#32 _ rfl,
    IdealRules.named_const.statement Cert.KernelIdeal.κ "eps" .bf16 0x3C24#16 _ rfl⟩

/-- All the claims. -/
theorem claim : Cert.Claim :=
  ⟨Cert.Kernel.Gen.facts, Cert.KernelIdeal.Gen.facts, Cert.ReferenceIdeal.Gen.facts, Cert.Pre_few_near_threshold.Gen.facts,
    fun m ρ _ => Kernel.quiet m ρ, fun m ρ _ => KernelIdeal.quiet m ρ, fun m ρ _ => KernelIdeal.quiet m ρ,
    fun m ρ _ => ReferenceIdeal.quiet m ρ, fun m ρ _ => ReferenceIdeal.quiet m ρ, preserves, algebraic⟩

end Cert.Proof

end
